-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xC61C4000#32 ⊥

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S4x256x128x128 : Shape := ⟨4, ![4, 256, 128, 128]⟩
abbrev S4x128x128 : Shape := ⟨3, ![4, 128, 128]⟩
abbrev S21x4x256 : Shape := ⟨3, ![21, 4, 256]⟩
abbrev S4x1x128x128 : Shape := ⟨4, ![4, 1, 128, 128]⟩
abbrev S_ : Shape := ⟨0, ![]⟩

class Facts : Prop where
  bcast_S_S4x128x128 : S_.BroadcastsInDim S4x128x128 (![] : Fin 0 → Fin S4x128x128.rank)

variable [Facts]

def fn {F : FTy → Type} [FloatOps F] (main_arg0 : FVec F S4x256x128x128 .f32) (main_arg1 : IVec S4x128x128 32) (main_arg2 : FVec F S21x4x256 .f32) (main_arg3 : FVec F S21x4x256 .f32) (main_arg4 : FVec F S4x1x128x128 .f32) : IVec S4x128x128 1 :=
  let main_c : IVec S_ 32 := constantI S_ 32 0#32
  let main_v0 : IVec S4x128x128 32 := broadcastInDim S4x128x128 ![] bcast_S_S4x128x128 main_c
  let main_v1 : IVec S4x128x128 1 := cmpi .sge main_arg1 main_v0
  let main_c_0 : IVec S_ 32 := constantI S_ 32 21#32
  let main_v2 : IVec S4x128x128 32 := broadcastInDim S4x128x128 ![] bcast_S_S4x128x128 main_c_0
  let main_v3 : IVec S4x128x128 1 := cmpi .slt main_arg1 main_v2
  let main_v4 : IVec S4x128x128 1 := andi main_v1 main_v3
  main_v4
-- ==== Kernel.lean ====
abbrev S4x256x128x128 : Shape := ⟨4, ![4, 256, 128, 128]⟩
abbrev S4x128x128 : Shape := ⟨3, ![4, 128, 128]⟩
abbrev S21x4x256 : Shape := ⟨3, ![21, 4, 256]⟩
abbrev S4x1x128x128 : Shape := ⟨4, ![4, 1, 128, 128]⟩
abbrev S1x1 : Shape := ⟨2, ![1, 1]⟩
abbrev S1x256x64x128 : Shape := ⟨4, ![1, 256, 64, 128]⟩
abbrev S1x64x128 : Shape := ⟨3, ![1, 64, 128]⟩
abbrev S1x1x64x128 : Shape := ⟨4, ![1, 1, 64, 128]⟩
abbrev S8x24x256 : Shape := ⟨3, ![8, 24, 256]⟩
abbrev S2 : Shape := ⟨1, ![2]⟩
abbrev S21x8x256 : Shape := ⟨3, ![21, 8, 256]⟩
abbrev S21x8 : Shape := ⟨2, ![21, 8]⟩
abbrev S21x8x1 : Shape := ⟨3, ![21, 8, 1]⟩
abbrev S8x21x256 : Shape := ⟨3, ![8, 21, 256]⟩
abbrev S8x22x256 : Shape := ⟨3, ![8, 22, 256]⟩
abbrev S1 : Shape := ⟨1, ![1]⟩
abbrev S256x64x128 : Shape := ⟨3, ![256, 64, 128]⟩
abbrev S256x8192 : Shape := ⟨2, ![256, 8192]⟩
abbrev S1x256 : Shape := ⟨2, ![1, 256]⟩
abbrev S1x8192 : Shape := ⟨2, ![1, 8192]⟩
abbrev S192x256 : Shape := ⟨2, ![192, 256]⟩
abbrev S192x8192 : Shape := ⟨2, ![192, 8192]⟩
abbrev S8x24x8192 : Shape := ⟨3, ![8, 24, 8192]⟩
abbrev S24x8192 : Shape := ⟨2, ![24, 8192]⟩
abbrev S8192 : Shape := ⟨1, ![8192]⟩
abbrev S64x128 : Shape := ⟨2, ![64, 128]⟩
abbrev S1x1x8192 : Shape := ⟨3, ![1, 1, 8192]⟩
abbrev S1x1x1 : Shape := ⟨3, ![1, 1, 1]⟩
abbrev S_ : Shape := ⟨0, ![]⟩

abbrev nBuf : Space → Nat
  | .hbm => 7
  | .vmem => 9
  | .smem => 2
  | _ => 0

abbrev bufTy : (tb : Table) → Fin (tcTables nBuf tb) → BufTy
  | .hbm, ⟨0, _⟩ => ⟨S4x256x128x128, .f32⟩
  | .hbm, ⟨1, _⟩ => ⟨S4x128x128, .i32⟩
  | .hbm, ⟨2, _⟩ => ⟨S21x4x256, .f32⟩
  | .hbm, ⟨3, _⟩ => ⟨S21x4x256, .f32⟩
  | .hbm, ⟨4, _⟩ => ⟨S4x1x128x128, .f32⟩
  | .hbm, ⟨5, _⟩ => ⟨S1x1, .f32⟩
  | .hbm, ⟨6, _⟩ => ⟨S_, .f32⟩
  | .local _ .vmem, ⟨0, _⟩ => ⟨S1x256x64x128, .f32⟩
  | .local _ .vmem, ⟨1, _⟩ => ⟨S1x256x64x128, .f32⟩
  | .local _ .vmem, ⟨2, _⟩ => ⟨S1x64x128, .i32⟩
  | .local _ .vmem, ⟨3, _⟩ => ⟨S1x64x128, .i32⟩
  | .local _ .vmem, ⟨4, _⟩ => ⟨S1x1x64x128, .f32⟩
  | .local _ .vmem, ⟨5, _⟩ => ⟨S1x1x64x128, .f32⟩
  | .local _ .vmem, ⟨6, _⟩ => ⟨S21x4x256, .f32⟩
  | .local _ .vmem, ⟨7, _⟩ => ⟨S21x4x256, .f32⟩
  | .local _ .vmem, ⟨8, _⟩ => ⟨S8x24x256, .bf16⟩
  | .local _ .smem, ⟨0, _⟩ => ⟨S1x1, .f32⟩
  | .local _ .smem, ⟨1, _⟩ => ⟨S2, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_stg5_0 : Ref sig .tc := ⟨.smem, 0, rfl⟩
abbrev cc0_scratch1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c3_i32 : BitVec 32 := 3#32
  let v63 : BitVec 1 := Scalar.cmpi .eq arg0 c3_i32
  let arg1 : BitVec 32 := BitVec.ofNat 32 (i 1).val
  let c1_i32 : BitVec 32 := 1#32
  let v64 : BitVec 1 := Scalar.cmpi .eq arg1 c1_i32
  let v65 : BitVec 1 := Scalar.andi v63 v64
  let v66 : BitVec 32 := Scalar.extui v65
  let c0_i32_30 : BitVec 32 := 0#32
  let v67 : BitVec 1 := Scalar.cmpi .ne v66 c0_i32_30
  v67

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S21x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S21x4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4x256x128x128 : Shape := ⟨4, ![4, 256, 128, 128]⟩
abbrev S4x128x128 : Shape := ⟨3, ![4, 128, 128]⟩
abbrev S21x4x256 : Shape := ⟨3, ![21, 4, 256]⟩
abbrev S4x1x128x128 : Shape := ⟨4, ![4, 1, 128, 128]⟩
abbrev S4x128x128x256 : Shape := ⟨4, ![4, 128, 128, 256]⟩
abbrev S65536x256 : Shape := ⟨2, ![65536, 256]⟩
abbrev S_ : Shape := ⟨0, ![]⟩
abbrev S65536 : Shape := ⟨1, ![65536]⟩
abbrev S65536x1 : Shape := ⟨2, ![65536, 1]⟩
abbrev S21x8x256 : Shape := ⟨3, ![21, 8, 256]⟩
abbrev S21x8 : Shape := ⟨2, ![21, 8]⟩
abbrev S21x8x1 : Shape := ⟨3, ![21, 8, 1]⟩
abbrev S168x256 : Shape := ⟨2, ![168, 256]⟩
abbrev S256x168 : Shape := ⟨2, ![256, 168]⟩
abbrev S65536x168 : Shape := ⟨2, ![65536, 168]⟩
abbrev S65536x21x8 : Shape := ⟨3, ![65536, 21, 8]⟩
abbrev S65536x21 : Shape := ⟨2, ![65536, 21]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S4x256x128x128, .f32⟩
  | .hbm, ⟨1, _⟩ => ⟨S4x128x128, .i32⟩
  | .hbm, ⟨2, _⟩ => ⟨S21x4x256, .f32⟩
  | .hbm, ⟨3, _⟩ => ⟨S21x4x256, .f32⟩
  | .hbm, ⟨4, _⟩ => ⟨S4x1x128x128, .f32⟩
  | .hbm, ⟨5, _⟩ => ⟨S4x128x128x256, .f32⟩
  | .hbm, ⟨6, _⟩ => ⟨S65536x256, .f32⟩
  | .hbm, ⟨7, _⟩ => ⟨S65536x256, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x256, .f32⟩
  | .hbm, ⟨16, _⟩ => ⟨S65536x256, .f32⟩
  | .hbm, ⟨17, _⟩ => ⟨S21x8x256, .f32⟩
  | .hbm, ⟨18, _⟩ => ⟨S21x8x256, .f32⟩
  | .hbm, ⟨19, _⟩ => ⟨S_, .f32⟩
  | .hbm, ⟨20, _⟩ => ⟨S21x8, .f32⟩
  | .hbm, ⟨21, _⟩ => ⟨S21x8x1, .f32⟩
  | .hbm, ⟨22, _⟩ => ⟨S21x8x1, .f32⟩
  | .hbm, ⟨23, _⟩ => ⟨S_, .f32⟩
  | .hbm, ⟨24, _⟩ => ⟨S21x8x1, .f32⟩
  | .hbm, ⟨25, _⟩ => ⟨S21x8x1, .f32⟩
  | .hbm, ⟨26, _⟩ => ⟨S21x8x256, .f32⟩
  | .hbm, ⟨27, _⟩ => ⟨S21x8x256, .f32⟩
  | .hbm, ⟨28, _⟩ => ⟨S168x256, .f32⟩
  | .hbm, ⟨29, _⟩ => ⟨S256x168, .f32⟩
  | .hbm, ⟨30, _⟩ => ⟨S65536x168, .f32⟩
  | .hbm, ⟨31, _⟩ => ⟨S_, .f32⟩
  | .hbm, ⟨32, _⟩ => ⟨S65536x168, .f32⟩
  | .hbm, ⟨33, _⟩ => ⟨S65536x168, .f32⟩
  | .hbm, ⟨34, _⟩ => ⟨S65536x21x8, .f32⟩
  | .hbm, ⟨35, _⟩ => ⟨S_, .f32⟩
  | .hbm, ⟨36, _⟩ => ⟨S65536x21, .f32⟩
  | .hbm, ⟨37, _⟩ => ⟨S65536, .i32⟩
  | .hbm, ⟨38, _⟩ => ⟨S_, .f32⟩
  | .hbm, ⟨39, _⟩ => ⟨S65536, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S65536x1, .f32⟩
  | .hbm, ⟨44, _⟩ => ⟨S65536x21, .f32⟩
  | .hbm, ⟨45, _⟩ => ⟨S65536x21, .f32⟩
  | .hbm, ⟨46, _⟩ => ⟨S65536x21, .f32⟩
  | .hbm, ⟨47, _⟩ => ⟨S_, .f32⟩
  | .hbm, ⟨48, _⟩ => ⟨S65536, .f32⟩
  | .hbm, ⟨49, _⟩ => ⟨S65536x1, .f32⟩
  | .hbm, ⟨50, _⟩ => ⟨S65536x1, .f32⟩
  | .hbm, ⟨51, _⟩ => ⟨S65536x21, .f32⟩
  | .hbm, ⟨52, _⟩ => ⟨S65536x21, .f32⟩
  | .hbm, ⟨53, _⟩ => ⟨S65536x1, .i32⟩
  | .hbm, ⟨54, _⟩ => ⟨S_, .i32⟩
  | .hbm, ⟨55, _⟩ => ⟨S65536x1, .i32⟩
  | .hbm, ⟨56, _⟩ => ⟨S65536x1, .i1⟩
  | .hbm, ⟨57, _⟩ => ⟨S_, .i32⟩
  | .hbm, ⟨58, _⟩ => ⟨S65536x1, .i32⟩
  | .hbm, ⟨59, _⟩ => ⟨S65536x1, .i32⟩
  | .hbm, ⟨60, _⟩ => ⟨S65536x1, .i32⟩
  | .hbm, ⟨61, _⟩ => ⟨S65536x1x1, .i32⟩
  | .hbm, ⟨62, _⟩ => ⟨S1, .i32⟩
  | .hbm, ⟨63, _⟩ => ⟨S_, .i32⟩
  | .hbm, ⟨64, _⟩ => ⟨S65536x1x1, .i32⟩
  | .hbm, ⟨65, _⟩ => ⟨S65536x1x1, .i1⟩
  | .hbm, ⟨66, _⟩ => ⟨S1x1x1, .i32⟩
  | .hbm, ⟨67, _⟩ => ⟨S65536x1x1, .i32⟩
  | .hbm, ⟨68, _⟩ => ⟨S65536x1x1, .i1⟩
  | .hbm, ⟨69, _⟩ => ⟨S65536x1x1, .i1⟩
  | .hbm, ⟨70, _⟩ => ⟨S_, .i1⟩
  | .hbm, ⟨71, _⟩ => ⟨S65536x1, .i1⟩
  | .hbm, ⟨72, _⟩ => ⟨S65536x1, .f32⟩
  | .hbm, ⟨73, _⟩ => ⟨S_, .f32⟩
  | .hbm, ⟨74, _⟩ => ⟨S65536x1, .f32⟩
  | .hbm, ⟨75, _⟩ => ⟨S65536x1, .f32⟩
  | .hbm, ⟨76, _⟩ => ⟨S65536, .f32⟩
  | .hbm, ⟨77, _⟩ => ⟨S65536, .f32⟩
  | .hbm, ⟨78, _⟩ => ⟨S65536, .f32⟩
  | .hbm, ⟨79, _⟩ => ⟨S65536, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_call2_cst : Ref sig .tc := ⟨.hbm, 38, rfl⟩
abbrev main_call2_v0 : Ref sig .tc := ⟨.hbm, 39, rfl⟩
abbrev main_call2_cst_0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_cst_1 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_v21 : Ref sig .tc := ⟨.hbm, 52, rfl⟩
abbrev main_v22 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_cst : Ref sig .tc := ⟨.hbm, 73, rfl⟩
abbrev main_call3_v14 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_3 : Ref sig .tc := ⟨.hbm, 80, rfl⟩
abbrev main_v28 : Ref sig .tc := ⟨.hbm, 81, rfl⟩
abbrev main_cst_4 : Ref sig .tc := ⟨.hbm, 82, rfl⟩
abbrev main_v29 : Ref sig .tc := ⟨.hbm, 83, rfl⟩
abbrev main_cst_5 : Ref sig .tc := ⟨.hbm, 84, rfl⟩
abbrev main_v30 : Ref sig .tc := ⟨.hbm, 85, rfl⟩
abbrev main_v31 : Ref sig .tc := ⟨.hbm, 86, rfl⟩

abbrev nD : Nat := 1
abbrev τ : Topo := Topo.v7x

variable {F : FTy → Type} [FloatOps F]
-- ==== Proof.KernelRun.lean ====
/-
  One call of the kernel's body, as printed: from its six windows' buffers and its two scratch buffers at any contents it
  runs to its end, leaving the five input buffers as they were and the output and scratch buffers at some contents. Enough
  for the kernel's frame, which reads neither.
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word the body tests on entry: one at the first point of the grid, zero elsewhere. -/
abbrev atFirst (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- The two scratch buffers, whole: the normalised prototypes and the two running sums. -/
abbrev protoM : Memref sig .tc .vmem S8x24x256 .bf16 := Memref.whole cc0_scratch0
abbrev sumM : Memref sig .tc .smem S2 .f32 := Memref.whole cc0_scratch1

set_option maxHeartbeats 1600000 in
theorem body_runs (c : Dev nD) (i : grid0.Coords)
    (a2 : Memref sig .tc .vmem S1x256x64x128 .f32) (h2 : a2.IsWhole) (a3 : Memref sig .tc .vmem S1x64x128 .i32) (h3 : a3.IsWhole)
    (a4 : Memref sig .tc .vmem S1x1x64x128 .f32) (h4 : a4.IsWhole) (a5 : Memref sig .tc .vmem S21x4x256 .f32) (h5 : a5.IsWhole)
    (a6 : Memref sig .tc .vmem S21x4x256 .f32) (h6 : a6.IsWhole) (a7 : Memref sig .tc .smem S1x1 .f32) (h7 : a7.IsWhole)
    (x2 : S1x256x64x128.Idx → Elt F .f32) (x3 : S1x64x128.Idx → Elt F .i32) (x4 : S1x1x64x128.Idx → Elt F .f32)
    (x5 x6 : S21x4x256.Idx → Elt F .f32) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
        ∗ (∃ d, owns (c : Thread nD τ) a7 fullShare d)
        ∗ (∃ d, owns (c : Thread nD τ) protoM fullShare d) ∗ (∃ d, owns (c : Thread nD τ) sumM fullShare d)
        ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6
            ∗ (∃ d, owns (c : Thread nD τ) a7 fullShare d)
            ∗ (∃ d, owns (c : Thread nD τ) protoM fullShare d) ∗ (∃ d, owns (c : Thread nD τ) sumM fullShare d)) -∗ K ⟨⟩))
      ⊢ wp frame (wpE (defs₀ (F := F)) Variants.none c none) Set.univ
          (cc0__body i a2 h2 a3 h3 a4 h4 a5 h5 a6 h6 a7 h7 protoM (Memref.isWhole_whole _) sumM (Memref.isWhole_whole _)) K := by
  simp only [cc0__body_eq_skeleton, k0_part1_eq_skeleton]; unfold cc0__body_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, Hk⟩
  by_cases hf : atFirst i = 1#1 <;> by_cases hl : k0_cond2 i = 1#1
  all_goals
    sl_exec (disch := first | sl_exact hf | sl_exact hl)
    sl_step
    iapply Hk
    isplitl [H2]; · iexists _; isplitr; swap; · iexact H2
                    ipureintro; exact e2
    isplitl [H3]; · iexists _; isplitr; swap; · iexact H3
                    ipureintro; exact e3
    isplitl [H4]; · iexists _; isplitr; swap; · iexact H4
                    ipureintro; exact e4
    isplitl [H5]; · iexists _; isplitr; swap; · iexact H5
                    ipureintro; exact e5
    isplitl [H6]; · iexists _; isplitr; swap; · iexact H6
                    ipureintro; exact e6
    isplitl [H7]; · iexists _, _; isplitr; swap; · iexact H7
                    ipureintro; rfl
    isplitl [H8]; · iexists _, _; isplitr; swap; · iexact H8
                    ipureintro; rfl
    iexists _, _; isplitr; swap; · iexact H9
    ipureintro; rfl

end Cert.Kernel.Hand

end
-- ==== Proof.KernelFrame.lean ====
/-
  The frame of the kernel as printed: it runs to its end, its five arguments are unchanged and every semaphore counter is
  zero. Nothing here reads the output block or the host result, so the output window is forgotten: the body may leave
  anything in it. The launch is the library's for a region with a host line after it (`θ_run_frame_around_T_forget`).
-/
module

public import proofs.«01_k».proof.Proof.KernelRun
public import Idealize.ShloMosaic.Lib.Pipeline.FrameSuffix
public import Idealize.ShloMosaic.Lib.Pipeline.Quiescent

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Only the output window is forgotten. -/
def forgets : Fin 6 → Bool := fun w => w == 5

/-- The proof data on core `c`: every array as the region finds it, every input block left in place, the scratch at
    anything between points. -/
def dats (_ : Fin 1) (c : Dev nD) : Dat τ (Elt F) Unit ℕ (UR sig nD τ) ℕ cfg0 c where
  A w := V m c (Pipeline.arrRef spec0 w)
  after w t := match w with
    | 5 => Pipeline.Dat.unnamed (cfg := cfg0) 5 t
    | 0 => iblk m c 0 t
    | 1 => iblk m c 1 t
    | 2 => iblk m c 2 t
    | 3 => iblk m c 3 t
    | 4 => iblk m c 4 t
  Φ _ := Pipeline.ΦA spec0 c
  q _ := fullShare
  owed _ := 0

/-- The scratch between two points, buffer by buffer. -/
theorem scratch_eq (c : Dev nD) :
    (Pipeline.ΦA spec0 c : sProp 𝕄)
      = iprop(((∃ d, owns (c : Thread nD τ) protoM fullShare d) ∗ (∃ d, owns (c : Thread nD τ) sumM fullShare d))
          ∗ (∃ r, prngReg c r)) := by
  unfold Pipeline.ΦA
  rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ X, owns (c : Thread nD τ) (st0_5 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) rfl (fun _ => rfl), before0_1_of m (dats m 0 c) rfl (fun _ => rfl),
    before0_2_of m (dats m 0 c) rfl (fun _ => rfl), before0_3_of m (dats m 0 c) rfl (fun _ => rfl),
    before0_4_of m (dats m 0 c) rfl (fun _ => rfl)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq]
  iintro ⟨⟨⟨H8, H9⟩, Hg⟩, HO, ⟨%d0, H0⟩, ⟨%d1, H1⟩, ⟨%d2, H2⟩, ⟨%d3, H3⟩, ⟨%d4, H4⟩, H5⟩
  iapply (body_runs c (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  isplitl [H8 H9 Hg]
  · isplitl [H8 H9]
    · isplitl [H8]; · iexact H8
      iexact H9
    iexact Hg
  isplitl [HO]; · iexact HO
  isplitl [H0]; · iexact H0
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- The one buffer the host line after the region writes. -/
theorem tail_writes : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  rw [Finset.mem_singleton]
  by_contra hne
  exact StableHlo.devRef_ne_of_ne hne hb

set_option backward.isDefEq.respectTransparency.types false in
/-- The run: from any memory with zero counters every fair execution ends, the windows' arrays as the forgotten proof data
    say and every counter at zero. -/
theorem run_main :
    θ_run defs (onTc (τ := τ) (main (F := F))) (s₀ m ρ)
      (fun r => Pipeline.RDat.FramePostR (cfgs 0) (fun c => (dats m 0 c).toRForget forgets) {main_v1} (fun c b => V0 m c (Proc.devRef .tc b)) r
        ∧ r.2.sem = fun _ => 0) :=
  Pipeline.θ_run_frame_around_T_forget (Q' := _) cfgs (dats m) (0 : Fin 1) launch0 defs₀ Variants.none forgets {main_v1} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)
    (hQ' := fun _ h => h)

/-- The frame, with the counters. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    have k := fun (w : Fin cfg0.W) (hin : (cfg0.win w).isOut = false) => Pipeline.RDat.FramePostR.arr_in h.1 c w hin
    ⟨k 0 rfl, k 1 rfl, k 3 rfl, k 4 rfl, k 2 rfl⟩, h.2⟩) (run_main m ρ)

end Cert.Kernel.Hand

end
-- ==== Proof.IdealRun.lean ====
/-
  One call of the idealized kernel's body with its values followed. The scratch holds the normalised prototypes (classes
  0 … 20 of 24 rows) and the two running sums. Three cases: the first point of the grid writes the prototypes and starts
  the sums from zero, the points between add to the sums, the last point adds and then writes the quotient.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.CellWrites
public import Idealize.ShloMosaic.Lib.WritesUnit
public import Idealize.ShloMosaic.Lib.VecWindow
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The word the body tests on entry: one at the first point of the grid, zero elsewhere. -/
abbrev atFirst (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- The two scratch buffers, whole: the normalised prototypes and the two running sums. -/
abbrev protoM : Memref sig .tc .vmem S8x24x256 .bf16 := Memref.whole cc0_scratch0
abbrev sumM : Memref sig .tc .smem S2 .f32 := Memref.whole cc0_scratch1

/-- The class number of each row of a 24-row tile. -/
def classNo : IVec S24x8192 32 := iota .tc S24x8192 32 [0] iota_S24x8192_d0_w32

/-- The weighted loss sum after one tile: `a` before it, pixels `x`, labels `y`, weights `w`, prototypes `X`. -/
def addLoss (x : S1x256x64x128.Idx → Elt F .f32) (y : S1x64x128.Idx → Elt F .i32) (w : S1x1x64x128.Idx → Elt F .f32)
    (X : S8x24x256.Idx → Elt F .bf16) (a : Elt F .f32) : Elt F .f32 :=
  k0_pay2 classNo (k0_pay6 x X) (k0_pay7 x X) y w a

/-- The weight sum after one tile. -/
def addWeight (w : S1x1x64x128.Idx → Elt F .f32) (b : Elt F .f32) : Elt F .f32 := k0_pay3 w b

/-- The sums both start from. -/
def zeroF : Elt F .f32 := Scalar.ofBits .f32 0x00000000#32

/-- The two running sums as the contents of the scratch that holds them. -/
def pair (a b : Elt F .f32) : S2.Idx → Elt F .f32 := fun j => if (j 0).val = 0 then a else b

/-- Rows 0 … 20 of the prototype scratch are the normalised prototypes `p`. -/
def HoldsRows (X : S8x24x256.Idx → Elt F .bf16) (p : S8x21x256.Idx → Elt F .bf16) : Prop :=
  ∀ (a : Fin 8) (k : Fin 21) (c : Fin 256), X (ix3 a (k.castLE (by decide)) c) = p (ix3 a k c)

theorem pair_zero (a b : Elt F .f32) (j : S2.Idx) (h : (j 0).val = 0) : pair a b j = a := if_pos h
theorem pair_one (a b : Elt F .f32) (j : S2.Idx) (h : (j 0).val = 1) : pair a b j = b := if_neg (by omega)

/-- The loss sum over values equal to these. -/
theorem addLoss_of {x y2 : S1x256x64x128.Idx → Elt F .f32} {y y3 : S1x64x128.Idx → Elt F .i32} {w y4 : S1x1x64x128.Idx → Elt F .f32}
    {X Y : S8x24x256.Idx → Elt F .bf16} {a b : Elt F .f32} (e2 : y2 = x) (e3 : y3 = y) (e4 : y4 = w) (e8 : Y = X) (e9 : b = a) :
    k0_pay2 classNo (k0_pay6 y2 Y) (k0_pay7 y2 Y) y3 y4 b = addLoss x y w X a := by
  subst e2; subst e3; subst e4; subst e8; subst e9; rfl

/-- The weight sum over values equal to these. -/
theorem addWeight_of {w y4 : S1x1x64x128.Idx → Elt F .f32} {a b : Elt F .f32} (e4 : y4 = w) (e9 : b = a) :
    k0_pay3 y4 b = addWeight w a := by
  subst e4; subst e9; rfl

/-- Two cell stores, the newest at cell 1 and the one before it at cell 0, leave that pair whatever came before. -/
theorem read_pair (f : sumM.view.ty.Contents (Elt F)) (i0 : ∀ a, (![0] : Fin 1 → ℕ) a + S1.size a ≤ S2.size a)
    (i1 : ∀ a, (![1] : Fin 1 → ℕ) a + S1.size a ≤ S2.size a) (a b : Elt F .f32) (L : List (View.Piece (Elt F) S2 .f32)) :
    sumM.view.read (Elt F) (sumM.view.writes (Elt F) f (⟨Rect.unit ![1] S1.size i1, fun _ => b⟩ :: ⟨Rect.unit ![0] S1.size i0, fun _ => a⟩ :: L))
      = pair a b := by
  funext j
  have hj : (j 0).val < 2 := (j 0).isLt
  refine (View.read_writes_cons_cell sumM.view f i1 b _ j).trans ?_
  by_cases h : (j 0).val = 0
  · rw [if_neg (by simp [h])]
    refine (View.read_writes_cons_cell sumM.view f i0 a _ j).trans ?_
    rw [if_pos (by simpa using h), pair_zero a b j h]
  · rw [if_pos (by simp; omega), pair_one a b j (by omega)]

/-- Storing `p` over rows 0 … 20 of what 22 rows held leaves it in those rows. -/
theorem read_rows (f : protoM.view.ty.Contents (Elt F)) (i0 : ∀ a, (![0, 0, 0] : Fin 3 → ℕ) a + S8x22x256.size a ≤ S8x24x256.size a)
    (old : S8x22x256.Idx → Elt F .bf16) (p : S8x21x256.Idx → Elt F .bf16) :
    HoldsRows (protoM.view.read (Elt F) (protoM.view.writes (Elt F) f
      [⟨Rect.unit ![0, 0, 0] S8x22x256.size i0, updateSlice old p ![0, 0, 0] slices_S8x22x256_S8x21x256_0_0_0⟩])) p := by
  intro a k c
  refine (View.read_writes_cons_unit_of_mem protoM.view f i0 _ _ _ (ix3 a (k.castLE (by decide)) c) rfl ?_).trans ?_
  · intro x; fin_cases x <;> simp [ix3]
  · unfold updateSlice
    rw [dif_pos]
    · congr 1
      funext x; fin_cases x <;> rfl
    · intro x
      have hk := k.isLt; have ha := a.isLt; have hc := c.isLt
      fin_cases x
      · exact ⟨Nat.zero_le _, by show a.val < 0 + 8; omega⟩
      · exact ⟨Nat.zero_le _, by show k.val < 0 + 21; omega⟩
      · exact ⟨Nat.zero_le _, by show c.val < 0 + 256; omega⟩

set_option maxHeartbeats 1600000 in
/-- A point that is neither the first nor the last. -/
theorem body_between (c : Dev nD) (i : grid0.Coords)
    (a2 : Memref sig .tc .vmem S1x256x64x128 .f32) (h2 : a2.IsWhole) (a3 : Memref sig .tc .vmem S1x64x128 .i32) (h3 : a3.IsWhole)
    (a4 : Memref sig .tc .vmem S1x1x64x128 .f32) (h4 : a4.IsWhole) (a5 : Memref sig .tc .vmem S21x4x256 .f32) (h5 : a5.IsWhole)
    (a6 : Memref sig .tc .vmem S21x4x256 .f32) (h6 : a6.IsWhole) (a7 : Memref sig .tc .smem S1x1 .f32) (h7 : a7.IsWhole)
    (x2 : S1x256x64x128.Idx → Elt F .f32) (x3 : S1x64x128.Idx → Elt F .i32) (x4 : S1x1x64x128.Idx → Elt F .f32)
    (x5 x6 : S21x4x256.Idx → Elt F .f32) (d7 : S1x1.Idx → Elt F .f32) (X : S8x24x256.Idx → Elt F .bf16) (a b : Elt F .f32) (K : PUnit → sProp 𝕄)
    (hf : ¬ atFirst i = 1#1) (hl : ¬ k0_cond2 i = 1#1) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
        ∗ owns (c : Thread nD τ) a7 fullShare d7
        ∗ owns (c : Thread nD τ) protoM fullShare X ∗ owns (c : Thread nD τ) sumM fullShare (pair a b)
        ∗ (iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
            ∗ owns (c : Thread nD τ) a7 fullShare d7
            ∗ owns (c : Thread nD τ) protoM fullShare X
            ∗ owns (c : Thread nD τ) sumM fullShare (pair (addLoss x2 x3 x4 X a) (addWeight x4 b))) -∗ K ⟨⟩))
      ⊢ wp frame (wpE (defs₀ (F := F)) Variants.none c none) Set.univ
          (cc0__body i a2 h2 a3 h3 a4 h4 a5 h5 a6 h6 a7 h7 protoM (Memref.isWhole_whole _) sumM (Memref.isWhole_whole _)) K := by
  simp only [cc0__body_eq_skeleton, k0_part1_eq_skeleton]; unfold cc0__body_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  sl_exec (disch := first | sl_exact hf | sl_exact hl)
  sl_step
  iapply Hk
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H6]; · iexists _; isplitr; swap; · iexact H6
                  ipureintro; exact e6
  isplitl [H7]; · iexists _; isplitr; swap; · iexact H7
                  ipureintro; exact e7
  isplitl [H8]; · iexists _; isplitr; swap; · iexact H8
                  ipureintro; exact e8
  iexists _; isplitr; swap; · iexact H9
  ipureintro
  refine (read_pair (F := F) _ _ _ _ _ _).trans (congrArg₂ (pair (F := F)) ?_ ?_)
  · refine addLoss_of (?_ : _ = x2) (?_ : _ = x3) (?_ : _ = x4) (?_ : _ = X) (?_ : _ = a)
    · exact (View.readAt_full a2.view f2 _).trans e2
    · exact (View.readAt_full a3.view f3 _).trans e3
    · exact (View.readAt_full a4.view f4 _).trans e4
    · exact (View.readAt_full protoM.view f8 _).trans e8
    · exact (congrFun e9 _).trans (pair_zero a b _ rfl)
  · exact addWeight_of ((View.readAt_full a4.view f4 _).trans e4) ((congrFun e9 _).trans (pair_one a b _ rfl))

set_option maxHeartbeats 1600000 in
/-- The last point of the grid. -/
theorem body_last (c : Dev nD) (i : grid0.Coords)
    (a2 : Memref sig .tc .vmem S1x256x64x128 .f32) (h2 : a2.IsWhole) (a3 : Memref sig .tc .vmem S1x64x128 .i32) (h3 : a3.IsWhole)
    (a4 : Memref sig .tc .vmem S1x1x64x128 .f32) (h4 : a4.IsWhole) (a5 : Memref sig .tc .vmem S21x4x256 .f32) (h5 : a5.IsWhole)
    (a6 : Memref sig .tc .vmem S21x4x256 .f32) (h6 : a6.IsWhole) (a7 : Memref sig .tc .smem S1x1 .f32) (h7 : a7.IsWhole)
    (x2 : S1x256x64x128.Idx → Elt F .f32) (x3 : S1x64x128.Idx → Elt F .i32) (x4 : S1x1x64x128.Idx → Elt F .f32)
    (x5 x6 : S21x4x256.Idx → Elt F .f32) (X : S8x24x256.Idx → Elt F .bf16) (a b : Elt F .f32) (K : PUnit → sProp 𝕄)
    (hf : ¬ atFirst i = 1#1) (hl : k0_cond2 i = 1#1) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
        ∗ (∃ d, owns (c : Thread nD τ) a7 fullShare d)
        ∗ owns (c : Thread nD τ) protoM fullShare X ∗ owns (c : Thread nD τ) sumM fullShare (pair a b)
        ∗ (iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
            ∗ owns (c : Thread nD τ) a7 fullShare (fun _ => k0_pay4 (addLoss x2 x3 x4 X a) (addWeight x4 b))
            ∗ owns (c : Thread nD τ) protoM fullShare X
            ∗ owns (c : Thread nD τ) sumM fullShare (pair (addLoss x2 x3 x4 X a) (addWeight x4 b))) -∗ K ⟨⟩))
      ⊢ wp frame (wpE (defs₀ (F := F)) Variants.none c none) Set.univ
          (cc0__body i a2 h2 a3 h3 a4 h4 a5 h5 a6 h6 a7 h7 protoM (Memref.isWhole_whole _) sumM (Memref.isWhole_whole _)) K := by
  simp only [cc0__body_eq_skeleton, k0_part1_eq_skeleton]; unfold cc0__body_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, Hk⟩
  sl_exec (disch := first | sl_exact hf | sl_exact hl)
  sl_step
  iapply Hk
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H6]; · iexists _; isplitr; swap; · iexact H6
                  ipureintro; exact e6
  isplitl [H7]; · iexists _; isplitr; swap; · iexact H7
                  ipureintro
                  refine (View.read_writes_full a7.view f7 _ _ _).trans ?_
                  funext j
                  refine congrArg₂ (k0_pay4 (F := F)) ?_ ?_
                  · refine addLoss_of (?_ : _ = x2) (?_ : _ = x3) (?_ : _ = x4) (?_ : _ = X) (?_ : _ = a)
                    · exact (View.readAt_full a2.view f2 _).trans e2
                    · exact (View.readAt_full a3.view f3 _).trans e3
                    · exact (View.readAt_full a4.view f4 _).trans e4
                    · exact (View.readAt_full protoM.view f8 _).trans e8
                    · exact (congrFun e9 _).trans (pair_zero a b _ rfl)
                  · exact addWeight_of ((View.readAt_full a4.view f4 _).trans e4) ((congrFun e9 _).trans (pair_one a b _ rfl))
  isplitl [H8]; · iexists _; isplitr; swap; · iexact H8
                  ipureintro; exact e8
  iexists _; isplitr; swap; · iexact H9
  ipureintro
  refine (read_pair (F := F) _ _ _ _ _ _).trans (congrArg₂ (pair (F := F)) ?_ ?_)
  · refine addLoss_of (?_ : _ = x2) (?_ : _ = x3) (?_ : _ = x4) (?_ : _ = X) (?_ : _ = a)
    · exact (View.readAt_full a2.view f2 _).trans e2
    · exact (View.readAt_full a3.view f3 _).trans e3
    · exact (View.readAt_full a4.view f4 _).trans e4
    · exact (View.readAt_full protoM.view f8 _).trans e8
    · exact (congrFun e9 _).trans (pair_zero a b _ rfl)
  · exact addWeight_of ((View.readAt_full a4.view f4 _).trans e4) ((congrFun e9 _).trans (pair_one a b _ rfl))

set_option maxHeartbeats 1600000 in
/-- The first point of the grid. -/
theorem body_first (c : Dev nD) (i : grid0.Coords)
    (a2 : Memref sig .tc .vmem S1x256x64x128 .f32) (h2 : a2.IsWhole) (a3 : Memref sig .tc .vmem S1x64x128 .i32) (h3 : a3.IsWhole)
    (a4 : Memref sig .tc .vmem S1x1x64x128 .f32) (h4 : a4.IsWhole) (a5 : Memref sig .tc .vmem S21x4x256 .f32) (h5 : a5.IsWhole)
    (a6 : Memref sig .tc .vmem S21x4x256 .f32) (h6 : a6.IsWhole) (a7 : Memref sig .tc .smem S1x1 .f32) (h7 : a7.IsWhole)
    (x2 : S1x256x64x128.Idx → Elt F .f32) (x3 : S1x64x128.Idx → Elt F .i32) (x4 : S1x1x64x128.Idx → Elt F .f32)
    (x5 x6 : S21x4x256.Idx → Elt F .f32) (d7 : S1x1.Idx → Elt F .f32) (K : PUnit → sProp 𝕄)
    (hf : atFirst i = 1#1) (hl : ¬ k0_cond2 i = 1#1) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
        ∗ owns (c : Thread nD τ) a7 fullShare d7
        ∗ (∃ d, owns (c : Thread nD τ) protoM fullShare d) ∗ (∃ d, owns (c : Thread nD τ) sumM fullShare d)
        ∗ (iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
            ∗ owns (c : Thread nD τ) a7 fullShare d7
            ∗ (∃ X, owns (c : Thread nD τ) protoM fullShare X
              ∗ ⌜HoldsRows X (k0_pay5 x5 x6)⌝
              ∗ owns (c : Thread nD τ) sumM fullShare (pair (addLoss x2 x3 x4 X zeroF) (addWeight x4 zeroF)))) -∗ K ⟨⟩))
      ⊢ wp frame (wpE (defs₀ (F := F)) Variants.none c none) Set.univ
          (cc0__body i a2 h2 a3 h3 a4 h4 a5 h5 a6 h6 a7 h7 protoM (Memref.isWhole_whole _) sumM (Memref.isWhole_whole _)) K := by
  simp only [cc0__body_eq_skeleton, k0_part1_eq_skeleton]; unfold cc0__body_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, Hk⟩
  sl_exec (disch := first | sl_exact hf | sl_exact hl)
  sl_step
  iapply Hk
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H6]; · iexists _; isplitr; swap; · iexact H6
                  ipureintro; exact e6
  isplitl [H7]; · iexists _; isplitr; swap; · iexact H7
                  ipureintro; exact e7
  iexists _
  isplitl [H8]; · iexists _; isplitr; swap; · iexact H8
                  ipureintro; rfl
  isplitr
  · ipureintro
    have q5 := (View.readAt_full a5.view f5 inb_S21x4x256_S21x4x256_0_0_0).trans e5
    have q6 := (View.readAt_full a6.view f6 inb_S21x4x256_S21x4x256_0_0_0).trans e6
    refine (congrArg (HoldsRows _) (congrArg₂ (k0_pay5 (F := F)) q5 q6)).mp ?_
    exact read_rows (F := F) f8 _ _ _
  iexists _; isplitr; swap; · iexact H9
  ipureintro
  refine (read_pair (F := F) _ _ _ _ _ _).trans (congrArg₂ (pair (F := F)) ?_ ?_)
  · refine addLoss_of (?_ : _ = x2) (?_ : _ = x3) (?_ : _ = x4) (?_ : _ = _) (?_ : _ = _)
    · exact (View.readAt_full a2.view f2 _).trans e2
    · exact (View.readAt_full a3.view f3 _).trans e3
    · exact (View.readAt_full a4.view f4 _).trans e4
    · exact View.readAt_full protoM.view _ _
    · exact rfl
  · exact addWeight_of ((View.readAt_full a4.view f4 _).trans e4) rfl

end Cert.KernelIdeal.Hand

end
-- ==== Proof.IdealFrame.lean ====
/-
  The run of the idealized kernel with its sums followed. Between points the scratch holds the normalised prototypes and
  the sums over the tiles so far; the last point writes their quotient, which the region carries to its result array. The
  prototype scratch has rows no one writes, so the sums are stated over one filling of them, and that no row beyond the
  twenty-first matters is a hypothesis here (`RowsOnly`), proved for the ideal floats elsewhere.
-/
module

public import proofs.«01_k».proof.Proof.IdealRun
public import Idealize.ShloMosaic.Lib.Pipeline.FrameSuffix
public import Idealize.ShloMosaic.Lib.Pipeline.Quiescent

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Rows 0 … 20 as given, every other row zero. -/
def padRows (p : S8x21x256.Idx → Elt F .bf16) : S8x24x256.Idx → Elt F .bf16 := fun j =>
  if h : (j 1).val < 21 then p (ix3 ⟨(j 0).val, (j 0).isLt⟩ ⟨(j 1).val, h⟩ ⟨(j 2).val, (j 2).isLt⟩) else Scalar.ofBits .bf16 0#16

theorem holdsRows_padRows (p : S8x21x256.Idx → Elt F .bf16) : HoldsRows (padRows p) p := fun a k c => by
  exact dif_pos k.isLt

/-- A tile's loss reads no prototype row beyond the twenty-first. -/
def RowsOnly (F : FTy → Type) [FloatOps F] [Named F] : Prop :=
  ∀ (x : S1x256x64x128.Idx → Elt F .f32) (y : S1x64x128.Idx → Elt F .i32) (w : S1x1x64x128.Idx → Elt F .f32)
    (X Y : S8x24x256.Idx → Elt F .bf16) (p : S8x21x256.Idx → Elt F .bf16) (a : Elt F .f32),
    HoldsRows X p → HoldsRows Y p → addLoss x y w X a = addLoss x y w Y a

theorem points : cfg0.N = 8 := rfl

/-- The normalised prototypes, of the two prototype arrays. -/
def protos (c : Dev nD) : S8x21x256.Idx → Elt F .bf16 :=
  k0_pay5 (iblk m c 3 ⟨0, by rw [points]; omega⟩) (iblk m c 4 ⟨0, by rw [points]; omega⟩)

/-- The weighted loss summed over the first `n` tiles. -/
def lossAt (c : Dev nD) : ℕ → Elt F .f32
  | 0 => zeroF
  | n + 1 => if h : n < cfg0.N then
      addLoss (iblk m c 0 ⟨n, h⟩) (iblk m c 1 ⟨n, h⟩) (iblk m c 2 ⟨n, h⟩) (padRows (protos m c)) (lossAt c n) else lossAt c n

/-- The weights summed over the first `n` tiles. -/
def weightAt (c : Dev nD) : ℕ → Elt F .f32
  | 0 => zeroF
  | n + 1 => if h : n < cfg0.N then addWeight (iblk m c 2 ⟨n, h⟩) (weightAt c n) else weightAt c n

theorem lossAt_succ (c : Dev nD) (t : Fin cfg0.N) :
    lossAt m c (t.val + 1) = addLoss (iblk m c 0 t) (iblk m c 1 t) (iblk m c 2 t) (padRows (protos m c)) (lossAt m c t.val) :=
  dif_pos t.isLt
theorem weightAt_succ (c : Dev nD) (t : Fin cfg0.N) : weightAt m c (t.val + 1) = addWeight (iblk m c 2 t) (weightAt m c t.val) :=
  dif_pos t.isLt

/-- The scratch before point `n`: anything before the first, the prototypes and the sums so far after it. -/
def scratchAt (c : Dev nD) (n : ℕ) : sProp 𝕄 :=
  if n = 0 then iprop((∃ d, owns (c : Thread nD τ) protoM fullShare d) ∗ (∃ d, owns (c : Thread nD τ) sumM fullShare d))
  else iprop((∃ X, owns (c : Thread nD τ) protoM fullShare X ∗ ⌜HoldsRows X (protos m c)⌝)
    ∗ owns (c : Thread nD τ) sumM fullShare (pair (lossAt m c n) (weightAt m c n)))

/-- The quotient of the two sums after the point. -/
def outAt (c : Dev nD) (n : ℕ) : Elt F .f32 := k0_pay4 (lossAt m c n) (weightAt m c n)

/-- The proof data on core `c`. -/
def dats (_ : Fin 1) (c : Dev nD) : Dat τ (Elt F) Unit ℕ (UR sig nD τ) ℕ cfg0 c where
  A w := V m c (Pipeline.arrRef spec0 w)
  after w t := match w with
    | 5 => fun _ => outAt m c (t.val + 1)
    | 0 => iblk m c 0 t
    | 1 => iblk m c 1 t
    | 2 => iblk m c 2 t
    | 3 => iblk m c 3 t
    | 4 => iblk m c 4 t
  Φ t := iprop(scratchAt m c t.val ∗ (∃ r, prngReg c r))
  q _ := fullShare
  owed _ := 0

/-- The scratch between two points, buffer by buffer. -/
theorem scratch_eq (c : Dev nD) :
    (Pipeline.ΦA spec0 c : sProp 𝕄)
      = iprop(((∃ d, owns (c : Thread nD τ) protoM fullShare d) ∗ (∃ d, owns (c : Thread nD τ) sumM fullShare d))
          ∗ (∃ r, prngReg c r)) := by
  unfold Pipeline.ΦA
  rw [scopedRest0_eq]; simp only [owns_whole]; try rfl

theorem first_iff : ∀ t : Fin grid0.N, atFirst (grid0.coords t) = 1#1 ↔ t.val = 0 := by decide
theorem last_iff : ∀ t : Fin grid0.N, k0_cond2 (grid0.coords t) = 1#1 ↔ t.val = 7 := by decide

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def outLeft (c : Dev nD) (t : Fin cfg0.N) : sProp 𝕄 :=
  if t.val = 7 then owns (c : Thread nD τ) (st0_5 t) fullShare ((dats m 0 c).after 5 t)
  else iprop(∃ d, owns (c : Thread nD τ) (st0_5 t) fullShare ((dats m 0 c).before 5 t d))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ outLeft m c t)

theorem sound_body (hr : RowsOnly F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) rfl (fun _ => rfl), before0_1_of m (dats m 0 c) rfl (fun _ => rfl),
    before0_2_of m (dats m 0 c) rfl (fun _ => rfl), before0_3_of m (dats m 0 c) rfl (fun _ => rfl),
    before0_4_of m (dats m 0 c) rfl (fun _ => rfl)]
  rw [show (dats m 0 c).owesAt () t.succ = (dats m 0 c).owesAt () t.castSucc from rfl,
    show (dats m 0 c).Φ t.succ = iprop(scratchAt m c (t.val + 1) ∗ (∃ r, prngReg c r)) from rfl,
    show (dats m 0 c).Φ t.castSucc = iprop(scratchAt m c t.val ∗ (∃ r, prngReg c r)) from rfl]
  have hs1 : scratchAt m c (t.val + 1) = iprop((∃ X, owns (c : Thread nD τ) protoM fullShare X ∗ ⌜HoldsRows X (protos m c)⌝)
    ∗ owns (c : Thread nD τ) sumM fullShare (pair (lossAt m c (t.val + 1)) (weightAt m c (t.val + 1)))) := if_neg (by omega)
  rw [hs1, lossAt_succ, weightAt_succ]
  by_cases h0 : t.val = 0
  · have hs0 : scratchAt m c t.val = iprop((∃ d, owns (c : Thread nD τ) protoM fullShare d) ∗ (∃ d, owns (c : Thread nD τ) sumM fullShare d)) := if_pos h0
    have ho : outLeft m c t = iprop(∃ d, owns (c : Thread nD τ) (st0_5 t) fullShare ((dats m 0 c).before 5 t d)) := if_neg (by omega)
    have hp : protos m c = k0_pay5 (iblk m c 3 t) (iblk m c 4 t) := by
      have : t = ⟨0, by rw [points]; omega⟩ := Fin.ext h0
      rw [this]; rfl
    have hl0 : lossAt m c t.val = zeroF := by rw [h0]; rfl
    have hw0 : weightAt m c t.val = zeroF := by rw [h0]; rfl
    rw [hs0, ho, hl0, hw0]
    iintro ⟨⟨⟨H8, H9⟩, Hg⟩, HO, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ (iblk m c 0 t) (iblk m c 1 t) (iblk m c 2 t) (iblk m c 3 t) (iblk m c 4 t)
      ((dats m 0 c).before 5 t d5) _ ((first_iff t).mpr h0) (fun h => by have := (last_iff t).mp h; omega))
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    iintro ⟨H0, H1, H2, H3, H4, H5, ⟨%X, H8, %hX, H9⟩⟩
    rw [hr _ _ _ X (padRows (protos m c)) (protos m c) zeroF (hp ▸ hX) (holdsRows_padRows _)]
    isplitl [H8 H9 Hg]
    · isplitl [H8 H9]
      · isplitl [H8]
        · iexists X; isplitl [H8]; · iexact H8
          ipureintro; exact hp ▸ hX
        iexact H9
      iexact Hg
    isplitl [HO]; · iexact HO
    isplitl [H0]; · iexact H0
    isplitl [H1]; · iexact H1
    isplitl [H2]; · iexact H2
    isplitl [H3]; · iexact H3
    isplitl [H4]; · iexact H4
    iexists d5; iexact H5
  have hs0 : scratchAt m c t.val = iprop((∃ X, owns (c : Thread nD τ) protoM fullShare X ∗ ⌜HoldsRows X (protos m c)⌝)
    ∗ owns (c : Thread nD τ) sumM fullShare (pair (lossAt m c t.val) (weightAt m c t.val))) := if_neg h0
  rw [hs0]
  by_cases h7 : t.val = 7
  · have ho : outLeft m c t = owns (c : Thread nD τ) (st0_5 t) fullShare (fun _ => k0_pay4
        (addLoss (iblk m c 0 t) (iblk m c 1 t) (iblk m c 2 t) (padRows (protos m c)) (lossAt m c t.val)) (addWeight (iblk m c 2 t) (weightAt m c t.val))) := by
      unfold outLeft
      rw [if_pos h7, ← lossAt_succ, ← weightAt_succ]; rfl
    rw [ho]
    iintro ⟨⟨⟨⟨%X, H8, %hX⟩, H9⟩, Hg⟩, HO, ⟨%d0, H0⟩, ⟨%d1, H1⟩, ⟨%d2, H2⟩, ⟨%d3, H3⟩, ⟨%d4, H4⟩, ⟨%d5, H5⟩⟩
    iapply (body_last c (grid0.coords t) _ _ _ _ _ _ _ _ _ _ _ _ (iblk m c 0 t) (iblk m c 1 t) (iblk m c 2 t) (iblk m c 3 t) (iblk m c 4 t)
      X (lossAt m c t.val) (weightAt m c t.val) _ (fun h => h0 ((first_iff t).mp h)) ((last_iff t).mpr h7))
    rw [hr _ _ _ X (padRows (protos m c)) (protos m c) (lossAt m c t.val) hX (holdsRows_padRows _)]
    isplitl [H0]; · iexact H0
    isplitl [H1]; · iexact H1
    isplitl [H2]; · iexact H2
    isplitl [H3]; · iexact H3
    isplitl [H4]; · iexact H4
    isplitl [H5]; · iexists _; iexact H5
    isplitl [H8]; · iexact H8
    isplitl [H9]; · iexact H9
    iintro ⟨H0, H1, H2, H3, H4, H5, H8, H9⟩
    isplitl [H8 H9 Hg]
    · isplitl [H8 H9]
      · isplitl [H8]
        · iexists X; isplitl [H8]; · iexact H8
          ipureintro; exact hX
        iexact H9
      iexact Hg
    isplitl [HO]; · iexact HO
    isplitl [H0]; · iexact H0
    isplitl [H1]; · iexact H1
    isplitl [H2]; · iexact H2
    isplitl [H3]; · iexact H3
    isplitl [H4]; · iexact H4
    iexact H5
  · have ho : outLeft m c t = iprop(∃ d, owns (c : Thread nD τ) (st0_5 t) fullShare ((dats m 0 c).before 5 t d)) := if_neg h7
    rw [ho]
    iintro ⟨⟨⟨⟨%X, H8, %hX⟩, H9⟩, Hg⟩, HO, ⟨%d0, H0⟩, ⟨%d1, H1⟩, ⟨%d2, H2⟩, ⟨%d3, H3⟩, ⟨%d4, H4⟩, ⟨%d5, H5⟩⟩
    iapply (body_between c (grid0.coords t) _ _ _ _ _ _ _ _ _ _ _ _ (iblk m c 0 t) (iblk m c 1 t) (iblk m c 2 t) (iblk m c 3 t) (iblk m c 4 t)
      ((dats m 0 c).before 5 t d5) X (lossAt m c t.val) (weightAt m c t.val) _ (fun h => h0 ((first_iff t).mp h)) (fun h => h7 ((last_iff t).mp h)))
    rw [hr _ _ _ X (padRows (protos m c)) (protos m c) (lossAt m c t.val) hX (holdsRows_padRows _)]
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    iintro ⟨H0, H1, H2, H3, H4, H5, H8, H9⟩
    isplitl [H8 H9 Hg]
    · isplitl [H8 H9]
      · isplitl [H8]
        · iexists X; isplitl [H8]; · iexact H8
          ipureintro; exact hX
        iexact H9
      iexact Hg
    isplitl [HO]; · iexact HO
    isplitl [H0]; · iexact H0
    isplitl [H1]; · iexact H1
    isplitl [H2]; · iexact H2
    isplitl [H3]; · iexact H3
    isplitl [H4]; · iexact H4
    iexists d5; iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem idle_of_lt : ∀ t : Fin grid0.N, t.val ≠ 7 → idle0 5 (grid0.coords t) = true := by decide
theorem idle_of_last : ∀ t : Fin grid0.N, t.val = 7 → idle0 5 (grid0.coords t) = false := by decide
theorem flush_of_lt (t : Fin cfg0.N) (h : t.val ≠ 7) : (cfg0.win 5).flush t = false := by
  rw [Bool.eq_false_iff]
  intro hf
  have := (flush0_5 t).mp hf
  have h8 : t.val < 8 := t.isLt
  omega

theorem body_obligation (hr : RowsOnly F) (c : Dev nD) :
    BodyObligation (dats (F := F) m 0 c) (defs₀ (F := F)) Variants.none () Set.univ := fun t => by
  rw [bigSep_W0, bigSep_W0, defs₀_row]
  refine triple_restated (sound_body m hr c t) rfl .rfl fun _ => ?_
  unfold bodyPost outLeft
  by_cases h7 : t.val = 7
  · rw [if_pos h7]; simp only [idle_of_last t h7]; exact .rfl
  · rw [if_neg h7]; simp only [idle_of_lt t h7, flush_of_lt t h7]; exact .rfl

set_option backward.isDefEq.respectTransparency.types false in
/-- The run: the windows' arrays as the proof data say after every write-back, what the host line after the region leaves,
    and every counter at zero. -/
theorem run_main (hr : RowsOnly F) :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m hr c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl)
    (hin := fun c => by
      rw [show (dats m 0 c).Φ 0 = iprop(scratchAt m c 0 ∗ (∃ r, prngReg c r)) from rfl, scratch_eq,
        show scratchAt m c 0 = _ from if_pos rfl])
    (hout := fun c => by
      rw [show (dats m 0 c).Φ (Fin.last cfg0.N) = iprop(scratchAt m c 8 ∗ (∃ r, prngReg c r)) from rfl, scratch_eq,
        show scratchAt m c 8 = _ from if_neg (by omega)]
      iintro ⟨⟨⟨%X, H8, -⟩, H9⟩, Hg⟩
      isplitl [H8 H9]
      · isplitl [H8]; · iexists X; iexact H8
        iexists _; iexact H9
      iexact Hg)
    (hQ' := fun _ h => h)

/-- The frame, with the counters. -/
theorem frame_run (hr : RowsOnly F) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_with_sems (frame_of m ρ (dats m) (fun _ _ => rfl)) (run_main m ρ hr)

end Cert.KernelIdeal.Hand

end
-- ==== Proof.IdealResult.lean ====
/-
  The idealized kernel's result: the one cell of its output array, written back at the last point, holds the quotient of
  the two sums over all eight tiles, and the host line after the region reshapes that cell to a scalar.
-/
module

public import proofs.«01_k».proof.Proof.IdealFrame

@[expose] public section

noncomputable section

namespace Cert.KernelIdeal.Hand

open Cert.KernelIdeal Cert.KernelIdeal.Gen
open Idealize.ShloMosaic Idealize.ShloMosaic.TcCoe
open Idealize.SL Idealize.SL.Sem
open Idealize.ShloMosaic.Rounds

variable {F : FTy → Type} [FloatOps F] [Named F]
variable (m : (ℓ : Loc nD τ sig) → Buf (Elt F) ℓ) (ρ : Dev nD → PrngReg)

/-- The last point. -/
abbrev lastPt : Fin cfg0.N := ⟨7, by rw [points]; omega⟩

/-- The output array after every write-back: the quotient in its one cell. -/
theorem out_array (c : Dev nD) (j : S1x1.Idx) : (dats m 0 c).arrAt 5 cfg0.N j = outAt m c 8 := by
  rw [show cfg0.N = lastPt.val + 1 from rfl, (dats m 0 c).arrAt_succ 5 lastPt, if_pos ((flush0_5 lastPt).mpr rfl)]
  have hj : ∃ x, ((cfg0.win 5).blk lastPt).view.emb x = j := ⟨j, by
    funext a; fin_cases a <;> exact Subsingleton.elim (α := Fin 1) _ _⟩
  obtain ⟨x, rfl⟩ := hj
  exact (View.write_emb_of_mem (v := ((cfg0.win 5).blk lastPt).view) _ _ (Finset.mem_univ x)).trans rfl

/-- The scalar result, as the host line leaves it. -/
theorem host_result (c : Dev nD) :
    Pipeline.afterTail₀ cfgs (dats m) 0 (V0 m) [hostOps1] c main_v1 = fun _ => outAt m c 8 := by
  unfold Pipeline.afterTail₀
  simp only [List.flatten_cons, List.flatten_nil, List.append_nil, hostOps1]
  funext j
  after_results
  exact (congrFun (Pipeline.withArrays_arr spec0 launch0.win.arr_inj c (V0 m c) (fun w => (dats m 0 c).arrAt w cfg0.N) 5) _).trans
    (out_array m c _)

/-- The run with its result. -/
theorem result_run (hr : RowsOnly F) :
    θ_run defs (onTc (τ := τ) (main (F := F))) ⟨m, fun _ => 0, ρ⟩ (fun r => ∀ c : Dev nD,
      r.2.mem ((c.tc : Thread nD τ).loc main_v1) = (fun _ => outAt m c 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v1 (by decide)).trans (host_result m c),
      ((h.1 c).1 0).trans (((dats m 0 c).arrAt_in 0 rfl _).trans (V_main_arg0 m c)),
      ((h.1 c).1 1).trans (((dats m 0 c).arrAt_in 1 rfl _).trans (V_main_arg1 m c)),
      ((h.1 c).1 3).trans (((dats m 0 c).arrAt_in 3 rfl _).trans (V_main_arg2 m c)),
      ((h.1 c).1 4).trans (((dats m 0 c).arrAt_in 4 rfl _).trans (V_main_arg3 m c)),
      ((h.1 c).1 2).trans (((dats m 0 c).arrAt_in 2 rfl _).trans (V_main_arg4 m c))⟩) (run_main m ρ hr)

end Cert.KernelIdeal.Hand

end
-- ==== Proof.Tiles.lean ====
/-
  The blocks the idealized kernel's grid points read, and the pixels they cover: tile `t` is half `t % 2` of image `t / 2`, and
  the eight tiles are the 65536 pixels.
-/
module

public import proofs.«01_k».proof.Proof.IdealFrame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The blocks of a grid point: half an image each for the pixels, the whole of the prototypes. -/
theorem idx : ∀ t : Fin cfg0.N, win0_0.index t = ![t.val / 2, 0, t.val % 2, 0] ∧ win0_1.index t = ![t.val / 2, t.val % 2, 0]
    ∧ win0_2.index t = ![t.val / 2, 0, t.val % 2, 0] ∧ win0_3.index t = ![0, 0, 0] ∧ win0_4.index t = ![0, 0, 0] :=
  (by decide +kernel : ∀ t : Fin grid0.N, _)

theorem tile_lt (t : Fin cfg0.N) (q : Fin 8192) : t.val * 8192 + q.val < 65536 := by
  have h : t.val < 8 := lt_of_lt_of_eq t.isLt points
  omega

/-- Pixel `q` of tile `t`, counted through the images. -/
def pixelNo (t : Fin cfg0.N) (q : Fin 8192) : Fin 65536 := ⟨t.val * 8192 + q.val, tile_lt t q⟩

theorem pixelNo_image (t : Fin cfg0.N) (q : Fin 8192) : (pixelNo t q).val / 16384 = t.val / 2 := by
  show (t.val * 8192 + q.val) / 16384 = t.val / 2
  omega
theorem pixelNo_row (t : Fin cfg0.N) (q : Fin 8192) : (pixelNo t q).val / 128 % 128 = t.val % 2 * 64 + q.val / 128 := by
  show (t.val * 8192 + q.val) / 128 % 128 = t.val % 2 * 64 + q.val / 128
  omega
theorem pixelNo_column (t : Fin cfg0.N) (q : Fin 8192) : (pixelNo t q).val % 128 = q.val % 128 := by
  show (t.val * 8192 + q.val) % 128 = q.val % 128
  omega

theorem image_lt (t : Fin cfg0.N) : t.val / 2 < 4 := by
  have h : t.val < 8 := lt_of_lt_of_eq t.isLt points
  omega
theorem row_lt (t : Fin cfg0.N) (s : Fin 64) : t.val % 2 * 64 + s.val < 128 := by omega

theorem channels_block (t : Fin cfg0.N) (a : Fin 256) (s : Fin 64) (l : Fin 128) :
    iblk m c 0 t (ix4 0 a s l) = m ((c : Thread nD τ).loc main_arg0) (ix4 ⟨t.val / 2, image_lt t⟩ a ⟨t.val % 2 * 64 + s.val, row_lt t s⟩ l) := by
  blk_ext [iblk, V, idx t]

theorem labels_block (t : Fin cfg0.N) (s : Fin 64) (l : Fin 128) :
    iblk m c 1 t (ix3 0 s l) = m ((c : Thread nD τ).loc main_arg1) (ix3 ⟨t.val / 2, image_lt t⟩ ⟨t.val % 2 * 64 + s.val, row_lt t s⟩ l) := by
  blk_ext [iblk, V, idx t]

theorem weights_block (t : Fin cfg0.N) (s : Fin 64) (l : Fin 128) :
    iblk m c 2 t (ix4 0 0 s l) = m ((c : Thread nD τ).loc main_arg4) (ix4 ⟨t.val / 2, image_lt t⟩ 0 ⟨t.val % 2 * 64 + s.val, row_lt t s⟩ l) := by
  blk_ext [iblk, V, idx t]

theorem protos_block (t : Fin cfg0.N) : iblk m c 3 t = m ((c : Thread nD τ).loc main_arg2) := by
  blk_ext! [iblk, V, idx t]

theorem extraProtos_block (t : Fin cfg0.N) : iblk m c 4 t = m ((c : Thread nD τ).loc main_arg3) := by
  blk_ext! [iblk, V, idx t]

/-- A sum kept up over the eight tiles is the sum over the pixels. -/
theorem tiles_sum (G : Fin 65536 → EReal) (f : ℕ → EReal) (h0 : f 0 = 0)
    (hs : ∀ t : Fin 8, f (t.val + 1) = f t.val + ∑ q : Fin 8192, G ⟨t.val * 8192 + q.val, by omega⟩) : f 8 = ∑ n, G n := by
  rw [Fin.sum_univ_tiles 8 8192 rfl G, Fin.sum_univ_eight]
  rw [show f 8 = f 7 + _ from hs 7, show f 7 = f 6 + _ from hs 6, show f 6 = f 5 + _ from hs 5, show f 5 = f 4 + _ from hs 4,
    show f 4 = f 3 + _ from hs 3, show f 3 = f 2 + _ from hs 2, show f 2 = f 1 + _ from hs 1, show f 1 = f 0 + _ from hs 0,
    h0, zero_add]

end Cert.KernelIdeal.Hand

end
-- ==== Proof.PixelMath.lean ====
/-
  One pixel's loss over the extended reals. A pixel is a vector `x` of channels, a class has a few prototypes `p r k`,
  real vectors. One computation scales the largest product `p r k · x` by the reciprocal of (length of `x`) · temperature
  and takes `log ∑ exp` of the logits less the label's logit; the other divides `x` by its length, divides each product
  by the temperature, and takes the negated log-softmax with the largest logit subtracted first. They agree for every
  `x`: a vector with an infinite entry has infinite length, and both logits are then zero.
-/
module

public import Idealize.ShloMosaic.Lib.Pointwise
public import Mathlib.Data.EReal.Inv

@[expose] public section

noncomputable section

namespace Cert.Pixel

open Idealize.ShloMosaic

/-! ## The three constants -/

/-- The small number added to lengths and to the sum of the weights. -/
abbrev eps : EReal := Ideal.ofBits .f32 0x322BCC77#32

/-- The temperature. -/
abbrev temp : EReal := Ideal.ofBits .f32 0x3DCCCCCD#32

theorem eps_real : ∃ e : ℝ, 0 < e ∧ eps = (e : EReal) := by
  refine ⟨11258999 * 2 ^ (-50 : ℤ), by positivity, ?_⟩
  simp [Ideal.ofBits, Ideal.ieee, -EReal.coe_mul]

theorem temp_real : ∃ t : ℝ, 0 < t ∧ temp = (t : EReal) := by
  refine ⟨13421773 * 2 ^ (-27 : ℤ), by positivity, ?_⟩
  simp [Ideal.ofBits, Ideal.ieee, -EReal.coe_mul]

theorem minusInf : Ideal.ofBits .f32 0xFF800000#32 = (⊥ : EReal) := by simp [Ideal.ofBits, Ideal.ieee]

/-! ## Sums and maxima of real numbers -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many real numbers. -/
def top {n : ℕ} (f : Fin (n + 1) → ℝ) : ℝ := Finset.univ.sup' ⟨0, Finset.mem_univ _⟩ f

theorem fold_max_coe {n : ℕ} (f : Fin (n + 1) → ℝ) :
    Finset.fold max (⊥ : EReal) (fun i => (f i : EReal)) Finset.univ = (top f : EReal) := by
  show Finset.univ.sup (fun i => (f i : EReal)) = _
  rw [← Finset.sup'_eq_sup ⟨0, Finset.mem_univ _⟩]
  exact (Finset.comp_sup'_eq_sup'_comp (f := f) _ (fun r : ℝ => (r : EReal)) fun a b => EReal.coe_strictMono.monotone.map_max).symm

theorem top_mul {n : ℕ} (f : Fin (n + 1) → ℝ) (a : ℝ) (ha : 0 ≤ a) : top f * a = top fun i => f i * a :=
  Finset.comp_sup'_eq_sup'_comp (f := f) _ (fun r : ℝ => r * a) fun x y => max_mul_of_nonneg x y ha

theorem top_const {n : ℕ} (a : ℝ) : (top fun _ : Fin (n + 1) => a) = a := Finset.sup'_const _ _

/-! ## Lengths -/

/-- A vector has only real entries or has an infinite one. -/
theorem real_or_infinite {n : ℕ} (x : Fin n → EReal) : (∃ r : Fin n → ℝ, x = fun i => (r i : EReal)) ∨ ∃ i, x i = ⊤ ∨ x i = ⊥ := by
  by_cases h : ∃ i, x i = ⊤ ∨ x i = ⊥
  · exact .inr h
  · push Not at h
    exact .inl ⟨fun i => (x i).toReal, funext fun i => (EReal.coe_toReal (h i).1 (h i).2).symm⟩

/-- The length of a vector, with the small number added. -/
def len {n : ℕ} (x : Fin n → EReal) : EReal := Ideal.sqrt (∑ c, x c * x c) + eps

theorem len_coe {n : ℕ} (r : Fin n → ℝ) : ∃ l : ℝ, 0 < l ∧ len (fun c => (r c : EReal)) = (l : EReal) := by
  obtain ⟨e, he, h⟩ := eps_real
  refine ⟨Real.sqrt (∑ c, r c * r c) + e, by positivity, ?_⟩
  have hs : ¬ (∑ c, r c * r c) < 0 := not_lt.2 (Finset.sum_nonneg fun c _ => mul_self_nonneg _)
  unfold len
  rw [h]
  simp only [← EReal.coe_mul]
  rw [← coe_sum, Ideal.sqrt_coe, if_neg hs, ← EReal.coe_add]

theorem mul_self_nonneg' (a : EReal) : 0 ≤ a * a := by
  induction a with
  | bot => simp
  | top => simp
  | coe r => rw [← EReal.coe_mul]; exact_mod_cast mul_self_nonneg r

theorem len_infinite {n : ℕ} (x : Fin n → EReal) (h : ∃ i, x i = ⊤ ∨ x i = ⊥) : len x = ⊤ := by
  obtain ⟨i, hi⟩ := h
  obtain ⟨e, he, h⟩ := eps_real
  have hsq : x i * x i = ⊤ := by rcases hi with hi | hi <;> rw [hi] <;> simp
  have hs : ∑ c, x c * x c = ⊤ :=
    top_le_iff.1 (hsq ▸ Finset.single_le_sum (f := fun c => x c * x c) (fun c _ => mul_self_nonneg' _) (Finset.mem_univ i))
  unfold len
  rw [hs, h]
  rfl

/-- A vector over its length. -/
def unit {n : ℕ} (x : Fin n → EReal) (c : Fin n) : EReal := Ideal.div (x c) (len x)

theorem div_top (a : EReal) : Ideal.div a ⊤ = 0 := by
  unfold Ideal.div
  rw [if_neg (by simp)]
  simp

/-- Whatever the vector, it is real once divided by its length. -/
theorem unit_real {n : ℕ} (x : Fin n → EReal) : ∃ u : Fin n → ℝ, ∀ c, unit x c = (u c : EReal) := by
  rcases real_or_infinite x with ⟨r, rfl⟩ | h
  · obtain ⟨l, hl, e⟩ := len_coe r
    refine ⟨fun c => r c * (1 / l), fun c => ?_⟩
    unfold unit
    rw [e, Ideal.div_coe hl.ne', ← EReal.coe_mul]
  · refine ⟨fun _ => 0, fun c => ?_⟩
    unfold unit
    rw [len_infinite x h, div_top]
    rfl

/-! ## Logits -/

variable {n : ℕ}

/-- The logit of one class: the largest product with the class's prototypes, scaled afterwards. -/
def scaledLogit (p : Fin 8 → Fin n → EReal) (x : Fin n → EReal) : EReal :=
  Finset.fold max (Ideal.ofBits .f32 0xFF800000#32) (fun r => ∑ c, p r c * x c) Finset.univ * Ideal.div 1 (len x * temp)

/-- The logit of one class: the largest cosine over the temperature. -/
def cosineLogit (p : Fin 8 → Fin n → EReal) (x : Fin n → EReal) : EReal :=
  Finset.fold max (Ideal.ofBits .f32 0xFF800000#32) (fun r => Ideal.div (∑ c, unit x c * p r c) temp) Finset.univ

/-- Over real prototypes the two logits are the same real number. -/
theorem logit_agree (p : Fin 8 → Fin n → ℝ) (x : Fin n → EReal) :
    ∃ L : ℝ, scaledLogit (fun r c => (p r c : EReal)) x = (L : EReal) ∧ cosineLogit (fun r c => (p r c : EReal)) x = (L : EReal) := by
  obtain ⟨t, ht, et⟩ := temp_real
  unfold scaledLogit cosineLogit unit
  rw [et, minusInf]
  rcases real_or_infinite x with ⟨r, rfl⟩ | h
  · obtain ⟨l, hl, e⟩ := len_coe r
    have hlt : l * t ≠ 0 := (mul_pos hl ht).ne'
    refine ⟨top (fun i => ∑ c, p i c * r c) * (1 / (l * t)), ?_, ?_⟩
    · rw [e, ← EReal.coe_mul, Ideal.div_coe hlt, one_mul]
      simp only [← EReal.coe_mul, ← coe_sum]
      rw [fold_max_coe, EReal.coe_mul]
    · rw [e]
      simp only [Ideal.div_coe hl.ne', Ideal.div_coe ht.ne', ← EReal.coe_mul, ← coe_sum]
      rw [fold_max_coe, top_mul _ _ (by positivity)]
      refine congrArg _ (congrArg top (funext fun i => ?_))
      rw [Finset.sum_mul, Finset.sum_mul]
      refine Finset.sum_congr rfl fun c _ => ?_
      field_simp
  · refine ⟨0, ?_, ?_⟩
    · rw [len_infinite x h, EReal.top_mul_coe_of_pos ht, div_top, mul_zero]
      rfl
    · rw [len_infinite x h]
      have e0 : ∀ i : Fin 8, Ideal.div (∑ c, Ideal.div (x c) ⊤ * (p i c : EReal)) (t : EReal) = ((0 : ℝ) : EReal) := fun i => by
        simp [div_top, Ideal.div_coe ht.ne']
      simp only [e0]
      rw [fold_max_coe, top_const]

/-! ## The loss of a pixel -/

/-- `log ∑ exp` of the logits less the label's. -/
def logSumLoss (L : Fin 21 → EReal) (y : Fin 21) : EReal := Ideal.log (∑ k, Ideal.exp (L k)) - L y

/-- A logit less the largest one. -/
def shift (L : Fin 21 → EReal) (k : Fin 21) : EReal :=
  L k - max (Ideal.ofBits .f32 0xFF800000#32) (Finset.fold max (Ideal.ofBits .f32 0xFF800000#32) L Finset.univ)

/-- The negated log-softmax at the label. -/
def softmaxLoss (L : Fin 21 → EReal) (y : Fin 21) : EReal := -(shift L y - Ideal.log (∑ k, Ideal.exp (shift L k)))

theorem log_sum_exp (L : Fin 21 → ℝ) : Ideal.log (∑ k, Ideal.exp (L k : EReal)) = ((Real.log (∑ k, Real.exp (L k)) : ℝ) : EReal) := by
  simp only [Ideal.exp_coe]
  rw [← coe_sum, Ideal.log_coe, if_neg (not_le.2 (Finset.sum_pos (fun k _ => Real.exp_pos _) ⟨0, Finset.mem_univ _⟩))]

/-- On real logits the two losses agree. -/
theorem loss_agree (L : Fin 21 → ℝ) (y : Fin 21) : logSumLoss (fun k => (L k : EReal)) y = softmaxLoss (fun k => (L k : EReal)) y := by
  unfold logSumLoss softmaxLoss shift
  rw [minusInf, fold_max_coe, max_eq_right bot_le, log_sum_exp]
  simp only [← EReal.coe_sub]
  rw [log_sum_exp, ← EReal.coe_sub, ← EReal.coe_neg]
  refine congrArg _ ?_
  have hs : ∑ k, Real.exp (L k - top L) = (∑ k, Real.exp (L k)) * Real.exp (-top L) := by
    rw [Finset.sum_mul]
    exact Finset.sum_congr rfl fun k _ => by rw [← Real.exp_add, sub_eq_add_neg]
  rw [hs, Real.log_mul (Finset.sum_pos (fun k _ => Real.exp_pos _) ⟨0, Finset.mem_univ _⟩).ne' (Real.exp_pos _).ne', Real.log_exp]
  ring

/-- THE PIXEL: with every prototype over its length, the two computations of a pixel's loss agree. -/
theorem pixel_agree {a : ℕ} (q : Fin 21 → Fin 8 → Fin a → EReal) (x : Fin a → EReal) (y : Fin 21) :
    logSumLoss (fun k => scaledLogit (fun r => unit (q k r)) x) y = softmaxLoss (fun k => cosineLogit (fun r => unit (q k r)) x) y := by
  choose u hu using fun k r => unit_real (q k r)
  have e : ∀ k, (fun r => unit (q k r)) = fun r c => (u k r c : EReal) := fun k => funext fun r => funext (hu k r)
  choose L hk hr using fun k => logit_agree (u k) x
  simp only [e, hk, hr]
  exact loss_agree L y

end Cert.Pixel

end
-- ==== Proof.TileValue.lean ====
/-
  The payloads of the idealized kernel's body, read at an index: a tile's logits at a class and a pixel, the sum of a
  tile's losses, the sum of its weights, the normalised prototypes. The padding rows 21 … 23 of the prototypes never count,
  since the logits there are replaced by the mask, −∞.
-/
module

public import proofs.«01_k».proof.Proof.IdealFrame
public import proofs.«01_k».proof.Proof.PixelMath

@[expose] public section

set_option maxRecDepth 16384

noncomputable section

namespace Cert.KernelIdeal.Hand

open Cert.KernelIdeal Cert.KernelIdeal.Gen Cert.Pixel
open Idealize.ShloMosaic Idealize.ShloMosaic.TcCoe Idealize.SL.Sem

/-- The channels of pixel `q` of a tile of 64 by 128 pixels. -/
def channels (x : Vec Ideal S1x256x64x128 .f32) (q : Fin 8192) (c : Fin 256) : EReal :=
  x (ix4 0 c ⟨q.val / 128, by omega⟩ ⟨q.val % 128, by omega⟩)

/-- The label of pixel `q` of a tile. -/
def label (y : Vec Ideal S1x64x128 .i32) (q : Fin 8192) : BitVec 32 :=
  y (ix3 0 ⟨q.val / 128, by omega⟩ ⟨q.val % 128, by omega⟩)

/-- The weight of pixel `q` of a tile. -/
def weight (w : Vec Ideal S1x1x64x128 .f32) (q : Fin 8192) : EReal :=
  w (ix4 0 0 ⟨q.val / 128, by omega⟩ ⟨q.val % 128, by omega⟩)

theorem class_lt : ∀ k : Fin 24, IntOp.cmpi .slt (BitVec.ofNat 32 k.val) 21#32 = if k.val < 21 then 1#1 else 0#1 := by decide

theorem class_eq : ∀ (k : Fin 24) (l : Fin 21),
    IntOp.cmpi .eq (BitVec.ofNat 32 k.val) (BitVec.ofNat 32 l.val) = if k.val = l.val then 1#1 else 0#1 := by decide

theorem mask_eq : (Named.named κ "mask" 0xC61C4000#32 : Ideal .f32) = (⊥ : EReal) :=
  IdealRules.named_const.ideal_named_scalar _ _ _ _ rfl

/-- The logit of class `k` at pixel `q`; −∞ in the padding rows. -/
theorem logit_apply (x : Vec Ideal S1x256x64x128 .f32) (X : Vec Ideal S8x24x256 .bf16) (p : Vec Ideal S8x21x256 .bf16)
    (h : HoldsRows X p) (k : Fin 24) (q : Fin 8192) :
    k0_pay6 x X (ix2 k q)
      = if hk : k.val < 21 then scaledLogit (fun r c => p (ix3 r ⟨k.val, hk⟩ c)) (channels x q) else (⊥ : EReal) := by
  pointwise [k0_pay6]
  rw [class_lt, mask_eq]
  by_cases hk : k.val < 21
  · rw [if_pos hk, dif_pos hk]
    unfold scaledLogit len channels
    have hX : ∀ (r : Fin 8) (c : Fin 256), X (ix3 r k c) = p (ix3 r ⟨k.val, hk⟩ c) := fun r c => h r ⟨k.val, hk⟩ c
    simp only [hX]
    rfl
  · rw [if_neg hk, dif_neg hk]
    rfl

/-- The logits read no row of the prototypes but the 21. -/
theorem logits_congr (x : Vec Ideal S1x256x64x128 .f32) (X Y : Vec Ideal S8x24x256 .bf16) (p : Vec Ideal S8x21x256 .bf16)
    (hX : HoldsRows X p) (hY : HoldsRows Y p) : k0_pay6 x X = k0_pay6 x Y := by
  funext j
  idx_vars j
  rw [logit_apply x X p hX, logit_apply x Y p hY]

theorem rowsOnly : RowsOnly Ideal := by
  intro x y w X Y p a hX hY
  have e6 := logits_congr x X Y p hX hY
  have e7 : k0_pay7 x X = k0_pay7 x Y := by unfold k0_pay7; rw [e6]
  unfold addLoss
  rw [e6, e7]

/-- The logits' `log ∑ exp` at a pixel. -/
theorem logSum_apply (x : Vec Ideal S1x256x64x128 .f32) (X : Vec Ideal S8x24x256 .bf16) (p : Vec Ideal S8x21x256 .bf16)
    (h : HoldsRows X p) (q : Fin 8192) :
    k0_pay7 x X (ix2 0 q)
      = Ideal.log (∑ k : Fin 21, Ideal.exp (scaledLogit (fun r c => p (ix3 r k c)) (channels x q))) := by
  pointwise [k0_pay7]
  refine congrArg Ideal.log ?_
  simp only [logit_apply x X p h]
  refine (Fin.sum_univ_add (a := 21) (b := 3) _).trans ?_
  refine (congrArg₂ (· + ·) (Finset.sum_congr rfl fun k _ => ?_) (Finset.sum_eq_zero fun k _ => ?_)).trans (add_zero _)
  · rw [dif_pos (show (Fin.castAdd 3 k).val < 21 from k.isLt)]
    rfl
  · rw [dif_neg (show ¬ (Fin.natAdd 21 k).val < 21 by simp)]
    rfl

/-- The label's logit at a pixel. -/
theorem labelLogit_apply (x : Vec Ideal S1x256x64x128 .f32) (X : Vec Ideal S8x24x256 .bf16) (p : Vec Ideal S8x21x256 .bf16)
    (h : HoldsRows X p) (q : Fin 8192) (l : Fin 21) :
    (∑ k : Fin 24, Scalar.select (IntOp.cmpi .eq (BitVec.ofNat 32 k.val) (BitVec.ofNat 32 l.val)) (k0_pay6 x X (ix2 k q) : EReal) 0)
      = scaledLogit (fun r c => p (ix3 r l c)) (channels x q) := by
  simp only [logit_apply x X p h, class_eq]
  rw [Finset.sum_eq_single (l.castLE (by omega) : Fin 24)]
  · rw [if_pos (by rfl), dif_pos (show (l.castLE (by omega) : Fin 24).val < 21 from l.isLt)]
    rfl
  · intro k _ hk
    rw [if_neg (show ¬ k.val = l.val from fun e => hk (Fin.ext e))]
    rfl
  · intro hl
    exact absurd (Finset.mem_univ _) hl

/-- What a tile adds to the running loss. -/
theorem addLoss_apply (x : Vec Ideal S1x256x64x128 .f32) (y : Vec Ideal S1x64x128 .i32) (w : Vec Ideal S1x1x64x128 .f32)
    (X : Vec Ideal S8x24x256 .bf16) (p : Vec Ideal S8x21x256 .bf16) (h : HoldsRows X p) (a : Elt Ideal .f32)
    (l : Fin 8192 → Fin 21) (hl : ∀ q, label y q = BitVec.ofNat 32 (l q).val) :
    addLoss x y w X a
      = (a + ∑ q : Fin 8192, logSumLoss (fun k => scaledLogit (fun r c => p (ix3 r k c)) (channels x q)) (l q) * weight w q : EReal) := by
  have e : addLoss x y w X a = (a + ∑ q : Fin 8192, ((k0_pay7 x X (ix2 0 q) : EReal) - ∑ k : Fin 24,
      Scalar.select (IntOp.cmpi .eq (BitVec.ofNat 32 k.val) (label y q)) (k0_pay6 x X (ix2 k q) : EReal) 0) * weight w q : EReal) := by
    unfold addLoss label weight
    pointwise [k0_pay2, k0_pay1, classNo]
    simp only [Fin.sum_univ_one]
  rw [e]
  refine congrArg _ (Finset.sum_congr rfl fun q _ => ?_)
  rw [hl q, labelLogit_apply x X p h, logSum_apply x X p h]
  rfl

/-- What a tile adds to the running weight. -/
theorem addWeight_apply (w : Vec Ideal S1x1x64x128 .f32) (a : Elt Ideal .f32) :
    addWeight w a = (a + ∑ q : Fin 8192, weight w q : EReal) := by
  unfold addWeight weight
  pointwise [k0_pay3, k0_pay1]
  simp only [Fin.sum_univ_one]

/-- The quotient written at the end. -/
theorem quotient_apply (a b : Elt Ideal .f32) : k0_pay4 a b = Ideal.div a ((b : EReal) + eps) := by
  pointwise [k0_pay4]

/-- Prototype `r` of class `k`: the first four from one argument, the last four from the other. -/
def proto (p q : Vec Ideal S21x4x256 .f32) (k : Fin 21) (r : Fin 8) (c : Fin 256) : EReal :=
  if h : r.val < 4 then p (ix3 k ⟨r.val, h⟩ c) else q (ix3 k ⟨r.val - 4, by omega⟩ c)

/-- The prototypes the kernel keeps are over their lengths. -/
theorem protos_apply (p q : Vec Ideal S21x4x256 .f32) (r : Fin 8) (k : Fin 21) (c : Fin 256) :
    k0_pay5 p q (ix3 r k c) = unit (proto p q k r) c := by
  pointwise [k0_pay5]
  rfl

end Cert.KernelIdeal.Hand

end
-- ==== Proof.RefStages.lean ====
/-
  The reference's result as a tower of named stages: pixels as rows, rows brought to unit length, prototypes brought to
  unit length, class logits, log-softmax, the label's entry of it, and the weighted mean.
-/
module

public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem

variable {F : FTy → Type} [FloatOps F]

/-- The pixels as rows of 256 channels. -/
def pixels (x : FVec F S4x256x128x128 .f32) : FVec F S65536x256 .f32 :=
  shapeCast S65536x256 (transpose S4x128x128x256 [0, 2, 3, 1] x transposes_S4x256x128x128_S4x128x128x256_0_2_3_1)
    shapeCasts_S4x128x128x256_S65536x256

/-- Each pixel over its length. -/
def unitPixels (z : FVec F S65536x256 .f32) : FVec F S65536x256 .f32 :=
  Host.divf z (broadcastInDim S65536x256 ![0, 1] bcast_S65536x1_S65536x256_0_1
    (addf (Host.sqrt (broadcastInDim S65536x1 ![0] bcast_S65536_S65536x1_0
        (Host.reduceAdd (mulf z z) (constant S_ .f32 0x00000000#32) reducesTo_S65536x256_S65536_d1 h_S_)))
      (broadcastInDim S65536x1 ![] bcast_S_S65536x1 (constant S_ .f32 0x322BCC77#32))))

/-- The eight prototypes of each class, four from either argument. -/
def allProtos (p q : FVec F S21x4x256 .f32) : FVec F S21x8x256 .f32 :=
  concatenate S21x8x256 1 [⟨S21x4x256, p⟩, ⟨S21x4x256, q⟩] concatenates_S21x4x256_S21x4x256_S21x8x256_d1

/-- Each prototype over its length. -/
def unitProtos (z : FVec F S21x8x256 .f32) : FVec F S21x8x256 .f32 :=
  Host.divf z (broadcastInDim S21x8x256 ![0, 1, 2] bcast_S21x8x1_S21x8x256_0_1_2
    (addf (Host.sqrt (broadcastInDim S21x8x1 ![0, 1] bcast_S21x8_S21x8x1_0_1
        (Host.reduceAdd (mulf z z) (constant S_ .f32 0x00000000#32) reducesTo_S21x8x256_S21x8_d2 h_S_)))
      (broadcastInDim S21x8x1 ![] bcast_S_S21x8x1 (constant S_ .f32 0x322BCC77#32))))

/-- A pixel's logit for a class: the largest cosine over the class's prototypes, over the temperature. -/
def logits (z : FVec F S65536x256 .f32) (p : FVec F S21x8x256 .f32) : FVec F S65536x21 .f32 :=
  Host.reduce FloatOps.maximumf
    (shapeCast S65536x21x8 (Host.divf
        (Host.dotGeneral dot_S65536x256_S256x168_S65536x168_1_0_0_1_n_n none z
          (transpose S256x168 [1, 0] (shapeCast S168x256 p shapeCasts_S21x8x256_S168x256) transposes_S168x256_S256x168_1_0))
        (broadcastInDim S65536x168 ![] bcast_S_S65536x168 (constant S_ .f32 0x3DCCCCCD#32)))
      shapeCasts_S65536x168_S65536x21x8)
    (constant S_ .f32 0xFF800000#32) reducesTo_S65536x21x8_S65536x21_d2 h_S_

/-- The logits less their largest. -/
def shifted (l : FVec F S65536x21 .f32) : FVec F S65536x21 .f32 :=
  subf l (broadcastInDim S65536x21 ![0, 1] bcast_S65536x1_S65536x21_0_1
    (broadcastInDim S65536x1 ![0] bcast_S65536_S65536x1_0
      (maximumf (broadcastInDim S65536 ![] bcast_S_S65536 (constant S_ .f32 0xFF800000#32))
        (Host.reduce FloatOps.maximumf l (constant S_ .f32 0xFF800000#32) reducesTo_S65536x21_S65536_d1 h_S_))))

/-- Shifted logits less the logarithm of the sum of their exponentials. -/
def logProbs (s : FVec F S65536x21 .f32) : FVec F S65536x21 .f32 :=
  subf s (broadcastInDim S65536x21 ![0, 1] bcast_S65536x1_S65536x21_0_1
    (Host.log (broadcastInDim S65536x1 ![0] bcast_S65536_S65536x1_0
      (Host.reduceAdd (Host.exp s) (constant S_ .f32 0x00000000#32) reducesTo_S65536x21_S65536_d1 h_S_))))

/-- The labels as a column. -/
def labelColumn (y : IVec S4x128x128 32) : IVec S65536x1 32 :=
  broadcastInDim S65536x1 ![0] bcast_S65536_S65536x1_0 (shapeCast S65536 y shapeCasts_S4x128x128_S65536)

/-- The column an entry is looked up in: the label, a negative one counted from the end. -/
def lookup (y : IVec S65536x1 32) : IVec S65536x1x1 32 :=
  shapeCast S65536x1x1
    (select (cmpi .slt y (broadcastInDim S65536x1 ![] bcast_S_S65536x1 (constantI S_ 32 0#32)))
      (addi y (broadcastInDim S65536x1 ![] bcast_S_S65536x1 (constantI S_ 32 21#32))) y)
    shapeCasts_S65536x1_S65536x1x1

/-- Whether the looked-up column is one of the 21. -/
def inRange (i : IVec S65536x1x1 32) : IVec S65536x1x1 1 :=
  andi (cmpi .sge i (broadcastInDim S65536x1x1 ![] bcast_S_S65536x1x1 (constantI S_ 32 0#32)))
    (cmpi .sle i (broadcastInDim S65536x1x1 ![0, 1, 2] bcast_S1x1x1_S65536x1x1_0_1_2
      (broadcastInDim S1x1x1 ![2] bcast_S1_S1x1x1_2 (constantI S1 32 20#32))))

/-- The looked-up entries. -/
def picked (l : FVec F S65536x21 .f32) (i : IVec S65536x1x1 32) : FVec F S65536x1 .f32 :=
  select (Host.reduce IntOp.andi (inRange i) (constantI S_ 1 1#1) reducesTo_S65536x1x1_S65536x1_d2 h_S_)
    (Host.gather gather_S65536x21_S65536x1x1_S65536x1_n_1_0_0_1_2_11 l i)
    (broadcastInDim S65536x1 ![] bcast_S_S65536x1 (constant S_ .f32 0x7FC00000#32))

/-- The weighted mean of the negated entries. -/
def weightedMean (g : FVec F S65536x1 .f32) (w : FVec F S4x1x128x128 .f32) : FVec F S_ .f32 :=
  Host.divf
    (Host.reduceAdd (mulf (Host.negf (shapeCast S65536 g shapeCasts_S65536x1_S65536)) (shapeCast S65536 w shapeCasts_S4x1x128x128_S65536))
      (constant S_ .f32 0x00000000#32) reducesTo_S65536_S_d0 h_S_)
    (addf (Host.reduceAdd (shapeCast S65536 w shapeCasts_S4x1x128x128_S65536) (constant S_ .f32 0x00000000#32) reducesTo_S65536_S_d0 h_S_)
      (constant S_ .f32 0x322BCC77#32))

/-- The reference as a function of its arguments. -/
def loss (x : FVec F S4x256x128x128 .f32) (y : IVec S4x128x128 32) (p q : FVec F S21x4x256 .f32) (w : FVec F S4x1x128x128 .f32) :
    FVec F S_ .f32 :=
  weightedMean (picked (logProbs (shifted (logits (unitPixels (pixels x)) (unitProtos (allProtos p q))))) (lookup (labelColumn y))) w

/-- The run's result is that function of the arguments. -/
theorem result_eq (m : (ℓ : Loc nD τ sig) → Buf (Elt F) ℓ) (c : Dev nD) :
    res_main_v31 m c = loss (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Hand

end
-- ==== Proof.RefGather.lean ====
/-
  The reference's lookup of a pixel's label in its row of 21 numbers, read at a pixel. The rows pair up, the column
  is looked up.
-/
module

public import proofs.«01_k».proof.Proof.Gen.ReferenceIdeal
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe

/-- The place of the start index of row `n`. -/
theorem start_place (n : Fin 65536) (k : Fin (GatherDims.startIndexMap gather_S65536x21_S65536x1x1_S65536x1_n_1_0_0_1_2_11).length) :
    GatherDims.siIdx gather_S65536x21_S65536x1x1_S65536x1_n_1_0_0_1_2_11 (ix2 n 0) k = ix3 n 0 0 := by
  have hk : k.val = 0 := by
    have h1 : k.val < 1 := k.isLt
    omega
  funext b
  refine Fin.ext ?_
  match b with
  | ⟨0, _⟩ => rfl
  | ⟨1, _⟩ => rfl
  | ⟨2, _⟩ => exact hk

/-- Read at a row: the row's entry in the column that the start index names, clamped to the row. -/
theorem gather_apply {α : Type} (x : S65536x21.Idx → α) (i : IVec S65536x1x1 32) (n : Fin 65536) :
    Host.gather gather_S65536x21_S65536x1x1_S65536x1_n_1_0_0_1_2_11 x i (ix2 n 0) = x (ix2 n ⟨min (i (ix3 n 0 0)).toInt.toNat 20, by omega⟩) := by
  have row : GatherDims.start gather_S65536x21_S65536x1x1_S65536x1_n_1_0_0_1_2_11 (ix2 n 0) i (0 : Fin 2) + GatherDims.batchCoord gather_S65536x21_S65536x1x1_S65536x1_n_1_0_0_1_2_11 (ix2 n 0) (0 : Fin 2)
      + GatherDims.offCoord gather_S65536x21_S65536x1x1_S65536x1_n_1_0_0_1_2_11 (ix2 n 0) (0 : Fin 2) = n.val := by
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ GatherDims.operandBatchingDims gather_S65536x21_S65536x1x1_S65536x1_n_1_0_0_1_2_11 from List.mem_singleton.mpr rfl)]
    rfl
  have col : GatherDims.start gather_S65536x21_S65536x1x1_S65536x1_n_1_0_0_1_2_11 (ix2 n 0) i (1 : Fin 2) + GatherDims.batchCoord gather_S65536x21_S65536x1x1_S65536x1_n_1_0_0_1_2_11 (ix2 n 0) (1 : Fin 2)
      + GatherDims.offCoord gather_S65536x21_S65536x1x1_S65536x1_n_1_0_0_1_2_11 (ix2 n 0) (1 : Fin 2) = min (i (ix3 n 0 0)).toInt.toNat 20 := by
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl)),
      Nat.add_zero]
    unfold GatherDims.start
    rw [dif_pos (show (1 : Fin 2) ∈ GatherDims.startIndexMap gather_S65536x21_S65536x1x1_S65536x1_n_1_0_0_1_2_11 from List.mem_singleton.mpr rfl), start_place]
    rfl
  unfold Host.gather
  refine congrArg x (funext fun a => Fin.ext ?_)
  match a with
  | ⟨0, _⟩ => exact row
  | ⟨1, _⟩ => exact col

end Cert.ReferenceIdeal.Hand

end
-- ==== Proof.RefValue.lean ====
/-
  The reference's stages read at an index: a pixel's logits, its log-softmax at the label, the weighted mean. Every label
  is a class, so the lookup reads the label's column.
-/
module

public import proofs.«01_k».proof.Proof.RefStages
public import proofs.«01_k».proof.Proof.RefGather
public import proofs.«01_k».proof.Proof.PixelMath

@[expose] public section

set_option maxRecDepth 16384

noncomputable section

namespace Cert.ReferenceIdeal.Hand

open Cert.ReferenceIdeal Cert.ReferenceIdeal.Gen Cert.Pixel
open Idealize.ShloMosaic Idealize.ShloMosaic.TcCoe Idealize.SL.Sem

/-- The channels of pixel `n`, the pixels counted through images, rows and columns. -/
def channels (x : FVec Ideal S4x256x128x128 .f32) (n : Fin 65536) (c : Fin 256) : EReal :=
  x (ix4 ⟨n.val / 16384, by omega⟩ c ⟨n.val / 128 % 128, by omega⟩ ⟨n.val % 128, by omega⟩)

/-- The label of pixel `n`. -/
def label (y : IVec S4x128x128 32) (n : Fin 65536) : BitVec 32 :=
  y (ix3 ⟨n.val / 16384, by omega⟩ ⟨n.val / 128 % 128, by omega⟩ ⟨n.val % 128, by omega⟩)

/-- The weight of pixel `n`. -/
def weight (w : FVec Ideal S4x1x128x128 .f32) (n : Fin 65536) : EReal :=
  w (ix4 ⟨n.val / 16384, by omega⟩ 0 ⟨n.val / 128 % 128, by omega⟩ ⟨n.val % 128, by omega⟩)

/-- Prototype `r` of class `k`: the first four from one argument, the last four from the other. -/
def proto (p q : FVec Ideal S21x4x256 .f32) (k : Fin 21) (r : Fin 8) (c : Fin 256) : EReal :=
  if h : r.val < 4 then p (ix3 k ⟨r.val, h⟩ c) else q (ix3 k ⟨r.val - 4, by omega⟩ c)

theorem pixels_apply (x : FVec Ideal S4x256x128x128 .f32) (n : Fin 65536) (c : Fin 256) : pixels x (ix2 n c) = channels x n c := by
  pointwise [pixels]
  rfl

theorem unitPixels_apply (z : FVec Ideal S65536x256 .f32) (n : Fin 65536) (c : Fin 256) :
    unitPixels z (ix2 n c) = unit (fun c => (z (ix2 n c) : EReal)) c := by
  pointwise [unitPixels]
  rfl

theorem allProtos_apply (p q : FVec Ideal S21x4x256 .f32) (k : Fin 21) (r : Fin 8) (c : Fin 256) :
    allProtos p q (ix3 k r c) = proto p q k r c := by
  pointwise [allProtos]
  rfl

theorem unitProtos_apply (z : FVec Ideal S21x8x256 .f32) (k : Fin 21) (r : Fin 8) (c : Fin 256) :
    unitProtos z (ix3 k r c) = unit (fun c => (z (ix3 k r c) : EReal)) c := by
  pointwise [unitProtos]
  rfl

/-- A pixel's logit for a class, of the arguments. -/
theorem logits_apply (x : FVec Ideal S4x256x128x128 .f32) (p q : FVec Ideal S21x4x256 .f32) (n : Fin 65536) (k : Fin 21) :
    logits (unitPixels (pixels x)) (unitProtos (allProtos p q)) (ix2 n k)
      = cosineLogit (fun r => unit (proto p q k r)) (channels x n) := by
  pointwise [logits]
  simp only [unitPixels_apply, unitProtos_apply, pixels_apply, allProtos_apply]
  rfl

theorem shifted_apply (l : FVec Ideal S65536x21 .f32) (n : Fin 65536) (k : Fin 21) :
    shifted l (ix2 n k) = shift (fun k => (l (ix2 n k) : EReal)) k := by
  pointwise [shifted]
  rfl

/-- The log-softmax of a pixel at a class is the negated loss there. -/
theorem logProbs_apply (l : FVec Ideal S65536x21 .f32) (n : Fin 65536) (k : Fin 21) :
    (-(logProbs (shifted l) (ix2 n k) : EReal)) = softmaxLoss (fun k => (l (ix2 n k) : EReal)) k := by
  pointwise [logProbs]
  simp only [shifted_apply]
  rfl

theorem wrap_label : ∀ l : Fin 21, Scalar.select (IntOp.cmpi .slt (BitVec.ofNat 32 l.val) 0#32)
    (IntOp.addi (BitVec.ofNat 32 l.val) 21#32) (BitVec.ofNat 32 l.val) = BitVec.ofNat 32 l.val := by decide

theorem label_inRange : ∀ l : Fin 21, IntOp.andi (IntOp.cmpi .sge (BitVec.ofNat 32 l.val) 0#32)
    (IntOp.cmpi .sle (BitVec.ofNat 32 l.val) 20#32) = 1#1 := by decide

theorem label_clamped : ∀ l : Fin 21, min (BitVec.ofNat 32 l.val).toInt.toNat 20 = l.val := by decide

/-- The column looked up is the label. -/
theorem lookup_apply (y : IVec S4x128x128 32) (n : Fin 65536) (l : Fin 21) (h : label y n = BitVec.ofNat 32 l.val) :
    lookup (labelColumn y) (ix3 n 0 0) = BitVec.ofNat 32 l.val := by
  unfold label at h
  pointwise [lookup, labelColumn]
  rw [h, wrap_label]

/-- A label that is a class is in range. -/
theorem inRange_apply (i : IVec S65536x1x1 32) (n : Fin 65536) (l : Fin 21) (h : i (ix3 n 0 0) = BitVec.ofNat 32 l.val) :
    inRange i (ix3 n 0 0) = 1#1 := by
  pointwise [inRange]
  rw [h, label_inRange]

/-- The looked-up entry of a pixel is the one at its label. -/
theorem picked_apply (l : FVec Ideal S65536x21 .f32) (i : IVec S65536x1x1 32) (n : Fin 65536) (k : Fin 21)
    (h : i (ix3 n 0 0) = BitVec.ofNat 32 k.val) : picked l i (ix2 n 0) = l (ix2 n k) := by
  have hall : Finset.fold IntOp.andi (1#1) (fun z : Fin 1 => inRange i (ix3 n 0 z)) Finset.univ = 1#1 := by
    rw [Finset.univ_unique, Finset.fold_singleton]
    show IntOp.andi (inRange i (ix3 n 0 0)) 1#1 = 1#1
    rw [inRange_apply i n k h]
    rfl
  pointwise [picked]
  rw [hall, gather_apply]
  refine congrArg (fun c => l (ix2 n c)) (Fin.ext ?_)
  show min (i (ix3 n 0 0)).toInt.toNat 20 = k.val
  rw [h, label_clamped]

/-- The weighted mean of the negated entries. -/
theorem weightedMean_apply (g : FVec Ideal S65536x1 .f32) (w : FVec Ideal S4x1x128x128 .f32) (j : S_.Idx) :
    weightedMean g w j = Ideal.div (∑ n : Fin 65536, -(g (ix2 n 0) : EReal) * weight w n) ((∑ n : Fin 65536, weight w n) + eps) := by
  pointwise [weightedMean]
  rfl

/-- THE REFERENCE: the weighted mean of the pixels' losses. -/
theorem loss_apply (x : FVec Ideal S4x256x128x128 .f32) (y : IVec S4x128x128 32) (p q : FVec Ideal S21x4x256 .f32)
    (w : FVec Ideal S4x1x128x128 .f32) (l : Fin 65536 → Fin 21) (hl : ∀ n, label y n = BitVec.ofNat 32 (l n).val) (j : S_.Idx) :
    loss x y p q w j
      = Ideal.div (∑ n : Fin 65536, softmaxLoss (fun k => cosineLogit (fun r => unit (proto p q k r)) (channels x n)) (l n) * weight w n)
          ((∑ n : Fin 65536, weight w n) + eps) := by
  unfold loss
  rw [weightedMean_apply]
  refine congrArg (fun s => Ideal.div s ((∑ n : Fin 65536, weight w n) + eps)) (Finset.sum_congr rfl fun n _ => ?_)
  refine congrArg (· * weight w n) ?_
  rw [picked_apply _ _ n (l n) (lookup_apply y n (l n) (hl n)), logProbs_apply]
  simp only [logits_apply]

end Cert.ReferenceIdeal.Hand

end
-- ==== Proof.KernelValue.lean ====
/-
  What the idealized kernel's grid adds up: the running sums after the eight tiles are the sums over all pixels, so the
  kernel's result is the reference's weighted mean.
-/
module

public import proofs.«01_k».proof.Proof.Tiles
public import proofs.«01_k».proof.Proof.TileValue
public import proofs.«01_k».proof.Proof.RefValue

@[expose] public section

set_option maxRecDepth 16384

noncomputable section

namespace Cert.KernelIdeal.Hand

open Cert.KernelIdeal Cert.KernelIdeal.Gen Cert.Pixel
open Idealize.ShloMosaic Idealize.ShloMosaic.TcCoe Idealize.SL.Sem

variable (m : (ℓ : Loc nD τ sig) → Buf (Elt Ideal) ℓ) (c : Dev nD)

theorem channels_tile (t : Fin cfg0.N) (q : Fin 8192) :
    channels (iblk m c 0 t) q = Cert.ReferenceIdeal.Hand.channels (m ((c : Thread nD τ).loc main_arg0)) (pixelNo t q) := by
  funext a
  unfold channels Cert.ReferenceIdeal.Hand.channels
  rw [channels_block]
  simp only [pixelNo_image, pixelNo_row, pixelNo_column]

theorem label_tile (t : Fin cfg0.N) (q : Fin 8192) :
    label (iblk m c 1 t) q = Cert.ReferenceIdeal.Hand.label (m ((c : Thread nD τ).loc main_arg1)) (pixelNo t q) := by
  unfold label Cert.ReferenceIdeal.Hand.label
  rw [labels_block]
  simp only [pixelNo_image, pixelNo_row, pixelNo_column]

theorem weight_tile (t : Fin cfg0.N) (q : Fin 8192) :
    weight (iblk m c 2 t) q = Cert.ReferenceIdeal.Hand.weight (m ((c : Thread nD τ).loc main_arg4)) (pixelNo t q) := by
  unfold weight Cert.ReferenceIdeal.Hand.weight
  rw [weights_block]
  simp only [pixelNo_image, pixelNo_row, pixelNo_column]

/-- The prototypes kept in the scratch, each over its length. -/
theorem protos_kept (r : Fin 8) (k : Fin 21) (a : Fin 256) :
    protos m c (ix3 r k a)
      = unit (Cert.ReferenceIdeal.Hand.proto (m ((c : Thread nD τ).loc main_arg2)) (m ((c : Thread nD τ).loc main_arg3)) k r) a := by
  unfold protos
  rw [protos_block, extraProtos_block, protos_apply]
  rfl

theorem zeroF_eq : (zeroF : Elt Ideal .f32) = (0 : EReal) := Ideal.ofBits_zero_f32

/-- The weights after the last tile. -/
theorem weight_total :
    weightAt m c 8 = (∑ n : Fin 65536, Cert.ReferenceIdeal.Hand.weight (m ((c : Thread nD τ).loc main_arg4)) n : EReal) := by
  refine tiles_sum _ (fun n => weightAt m c n) zeroF_eq fun t => ?_
  have h := weightAt_succ m c ⟨t.val, lt_of_lt_of_eq t.isLt points.symm⟩
  rw [addWeight_apply] at h
  simp only [weight_tile] at h
  exact h

/-- The losses after the last tile, each pixel's loss as the reference has it. -/
theorem loss_total (l : Fin 65536 → Fin 21)
    (hl : ∀ n, Cert.ReferenceIdeal.Hand.label (m ((c : Thread nD τ).loc main_arg1)) n = BitVec.ofNat 32 (l n).val) :
    lossAt m c 8 = (∑ n : Fin 65536, softmaxLoss (fun k => cosineLogit (fun r => unit (Cert.ReferenceIdeal.Hand.proto
        (m ((c : Thread nD τ).loc main_arg2)) (m ((c : Thread nD τ).loc main_arg3)) k r))
        (Cert.ReferenceIdeal.Hand.channels (m ((c : Thread nD τ).loc main_arg0)) n)) (l n)
      * Cert.ReferenceIdeal.Hand.weight (m ((c : Thread nD τ).loc main_arg4)) n : EReal) := by
  refine tiles_sum _ (fun n => lossAt m c n) zeroF_eq fun t => ?_
  have h := lossAt_succ m c ⟨t.val, lt_of_lt_of_eq t.isLt points.symm⟩
  rw [addLoss_apply _ _ _ _ (protos m c) (holdsRows_padRows _) _ (fun q => l (pixelNo ⟨t.val, lt_of_lt_of_eq t.isLt points.symm⟩ q))
    (fun q => (label_tile m c _ q).trans (hl _))] at h
  simp only [weight_tile, channels_tile, protos_kept, ← pixel_agree]  at h ⊢
  exact h

/-- The kernel's result is the reference's. -/
theorem outAt_eq (l : Fin 65536 → Fin 21)
    (hl : ∀ n, Cert.ReferenceIdeal.Hand.label (m ((c : Thread nD τ).loc main_arg1)) n = BitVec.ofNat 32 (l n).val)
    (j : Cert.ReferenceIdeal.S_.Idx) :
    outAt m c 8 = Cert.ReferenceIdeal.Hand.loss (F := Ideal) (m ((c : Thread nD τ).loc main_arg0)) (m ((c : Thread nD τ).loc main_arg1))
      (m ((c : Thread nD τ).loc main_arg2)) (m ((c : Thread nD τ).loc main_arg3)) (m ((c : Thread nD τ).loc main_arg4)) j := by
  unfold outAt
  rw [Cert.ReferenceIdeal.Hand.loss_apply _ _ _ _ _ l hl, quotient_apply, weight_total, loss_total m c l hl]

end Cert.KernelIdeal.Hand

end
-- ==== Proof.Labels.lean ====
/-
  What the precondition says of one label: it is the number of one of the 21 classes.
-/
module

public import proofs.«01_k».proof.Pre_labels_in_range
public import Idealize.ShloMosaic.Lib.Affine
public import Idealize.ShloMosaic.Lib.Pointwise

@[expose] public section

noncomputable section

namespace Cert.Pre_labels_in_range.Hand

open Idealize.ShloMosaic

/-- The precondition's shape relation. -/
theorem facts : Cert.Pre_labels_in_range.Facts := ⟨by decide⟩

theorem ofBool_one : ∀ b : Bool, BitVec.ofBool b = 1#1 → b = true := by decide

/-- A number that is at least 0 and below 21, signed, is below 21. -/
theorem toNat_lt (y : BitVec 32) (h : IntOp.andi (IntOp.cmpi .sge y 0#32) (IntOp.cmpi .slt y 21#32) = 1#1) : y.toNat < 21 := by
  obtain ⟨h0, h1⟩ := IntOp.andi_eq_one.mp h
  have a0 : (0#32).sle y = true := ofBool_one _ h0
  have a1 : y.slt 21#32 = true := ofBool_one _ h1
  rw [BitVec.sle_eq_decide, decide_eq_true_eq] at a0
  rw [BitVec.slt_eq_decide, decide_eq_true_eq] at a1
  simp only [BitVec.toInt_eq_toNat_cond] at a0 a1
  have := y.isLt
  simp at a0 a1
  omega

/-- Under the precondition every label is a class. -/
theorem label_lt [Cert.Pre_labels_in_range.Facts] {F : FTy → Type} [FloatOps F] (x : FVec F S4x256x128x128 .f32) (y : IVec S4x128x128 32)
    (p q : FVec F S21x4x256 .f32) (w : FVec F S4x1x128x128 .f32) (h : fn x y p q w = fun _ => 1#1) (j : S4x128x128.Idx) :
    (y j).toNat < 21 :=
  toNat_lt (y j) (congrFun h j)

end Cert.Pre_labels_in_range.Hand

end
-- ==== Proof.Claims.lean ====
/-
  The five claims.
-/
module

public import proofs.«01_k».proof.Defs
public import proofs.«01_k».proof.Proof.KernelFrame
public import proofs.«01_k».proof.Proof.IdealResult
public import proofs.«01_k».proof.Proof.KernelValue
public import proofs.«01_k».proof.Proof.Labels
public import proofs.«01_k».proof.Proof.Gen.ReferenceIdeal.Run

@[expose] public section

set_option maxRecDepth 16384

noncomputable section

namespace Cert.Proof.Claims

open Idealize.ShloMosaic Idealize.SL.Sem

theorem frame_kernel : Cert.quiescent_Kernel := fun m g _ => Cert.Kernel.Hand.frame_run m g

theorem frame_ideal : Cert.quiescent_KernelIdeal := fun m g _ => Cert.KernelIdeal.Hand.frame_run m g Cert.KernelIdeal.Hand.rowsOnly

theorem frame_ideal_pre [Cert.Pre_labels_in_range.Facts] : Cert.quiescent_KernelIdeal_pre_labels_in_range :=
  fun m g _ => Cert.KernelIdeal.Hand.frame_run m g Cert.KernelIdeal.Hand.rowsOnly

/-- The reference's arguments stay, and it has no semaphores. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_pre [Cert.Pre_labels_in_range.Facts] : Cert.quiescent_ReferenceIdeal_pre_labels_in_range :=
  fun m g _ => frame_reference m g trivial

/-- The mask's name stands for −∞. -/
theorem preserves : Cert.preserves_Kernel_KernelIdeal :=
  IdealRules.named_const.statement Cert.KernelIdeal.κ "mask" .f32 0xC61C4000#32 ⊥ rfl

/-- Under the precondition each pixel's label is the number of a class. -/
theorem labels_are_classes [Cert.Pre_labels_in_range.Facts]
    (m : (ℓ : Loc Cert.KernelIdeal.nD Cert.KernelIdeal.τ Cert.KernelIdeal.sig) → Buf (Elt Ideal) ℓ)
    (h : Cert.Pre_KernelIdeal_labels_in_range m) (c : Dev Cert.KernelIdeal.nD) (n : Fin 65536) :
    (Cert.ReferenceIdeal.Hand.label (m ((c.tc : Thread Cert.KernelIdeal.nD Cert.KernelIdeal.τ).loc Cert.KernelIdeal.main_arg1)) n).toNat < 21 :=
  Cert.Pre_labels_in_range.Hand.label_lt _ _ _ _ _ (h c) _

/-- The kernel's result is the reference's. -/
theorem algebraic [Cert.Pre_labels_in_range.Facts] : Cert.algebraic_KernelIdeal_ReferenceIdeal_pre_labels_in_range := by
  intro m g m' g' hpre hagree
  refine ⟨_, Cert.KernelIdeal.Hand.result_run m g Cert.KernelIdeal.Hand.rowsOnly, ?_⟩
  refine (θ_run Cert.ReferenceIdeal.defs _ _).mono (fun _ h c => ⟨(h c).1.trans ?_, (h c).2⟩)
    (Cert.ReferenceIdeal.Value.run (F := Ideal) m' g')
  obtain ⟨e0, e1, e2, e3, e4⟩ := hagree c
  refine (Cert.ReferenceIdeal.Hand.result_eq m' c).trans ?_
  rw [e0, e1, e2, e3, e4]
  funext j
  exact (Cert.KernelIdeal.Hand.outAt_eq m c (fun n => ⟨_, labels_are_classes m hpre c n⟩)
    (fun n => ((BitVec.ofNat_toNat 32 _).trans (BitVec.setWidth_eq _)).symm) j).symm

end Cert.Proof.Claims

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  haveI := Cert.Pre_labels_in_range.Hand.facts
  ⟨Cert.Kernel.Gen.facts, Cert.KernelIdeal.Gen.facts, Cert.ReferenceIdeal.Gen.facts, Cert.Pre_labels_in_range.Hand.facts,
    Claims.frame_kernel, Claims.frame_ideal, Claims.frame_ideal_pre, Claims.frame_reference, Claims.frame_reference_pre,
    Claims.preserves, Claims.algebraic⟩

end Cert.Proof

end
